-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S4x256x1024 : Shape := ⟨3, ![4, 256, 1024]⟩
abbrev S1024x1024 : Shape := ⟨2, ![1024, 1024]⟩
abbrev S4x1024x32x128 : Shape := ⟨4, ![4, 1024, 32, 128]⟩
abbrev S_ : Shape := ⟨0, ![]⟩

class Facts : Prop where
  bcast_S_S4x256x1024 : S_.BroadcastsInDim S4x256x1024 (![] : Fin 0 → Fin S4x256x1024.rank)
  bcast_S_S1024x1024 : S_.BroadcastsInDim S1024x1024 (![] : Fin 0 → Fin S1024x1024.rank)
  bcast_S_S4x1024x32x128 : S_.BroadcastsInDim S4x1024x32x128 (![] : Fin 0 → Fin S4x1024x32x128.rank)

variable [Facts]

def fn {F : FTy → Type} [FloatOps F] (main_arg0 : FVec F S4x256x1024 .f32) (main_arg1 : FVec F S1024x1024 .f32) (main_arg2 : FVec F S1024x1024 .f32) (main_arg3 : FVec F S4x1024x32x128 .f32) (main_arg4 : FVec F S4x1024x32x128 .f32) : IVec S4x256x1024 1 × IVec S1024x1024 1 × IVec S4x1024x32x128 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S4x1024x32x128 .f32 := Host.absf main_arg3
  let main_cst_1 : FVec F S_ .f32 := constant S_ .f32 0x7F800000#32
  let main_v7 : FVec F S4x1024x32x128 .f32 := broadcastInDim S4x1024x32x128 ![] bcast_S_S4x1024x32x128 main_cst_1
  let main_v8 : IVec S4x1024x32x128 1 := cmpf .olt main_v6 main_v7
  (main_v2, main_v5, main_v8)
-- ==== Pre_finite_ReferenceIdeal.lean ====
abbrev S4x256x1024 : Shape := ⟨3, ![4, 256, 1024]⟩
abbrev S1024x4096 : Shape := ⟨2, ![1024, 4096]⟩
abbrev S4096x1024 : Shape := ⟨2, ![4096, 1024]⟩
abbrev S4x1024x32x128 : Shape := ⟨4, ![4, 1024, 32, 128]⟩
abbrev S_ : Shape := ⟨0, ![]⟩

class Facts : Prop where
  bcast_S_S4x256x1024 : S_.BroadcastsInDim S4x256x1024 (![] : Fin 0 → Fin S4x256x1024.rank)
  bcast_S_S1024x4096 : S_.BroadcastsInDim S1024x4096 (![] : Fin 0 → Fin S1024x4096.rank)
  bcast_S_S4x1024x32x128 : S_.BroadcastsInDim S4x1024x32x128 (![] : Fin 0 → Fin S4x1024x32x128.rank)

variable [Facts]

def fn {F : FTy → Type} [FloatOps F] (main_arg0 : FVec F S4x256x1024 .f32) (main_arg1 : FVec F S1024x4096 .f32) (main_arg2 : FVec F S4096x1024 .f32) (main_arg3 : FVec F S4x1024x32x128 .f32) (main_arg4 : FVec F S4x1024x32x128 .f32) : IVec S4x256x1024 1 × IVec S1024x4096 1 × IVec S4x1024x32x128 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S4x1024x32x128 .f32 := Host.absf main_arg3
  let main_cst_1 : FVec F S_ .f32 := constant S_ .f32 0x7F800000#32
  let main_v7 : FVec F S4x1024x32x128 .f32 := broadcastInDim S4x1024x32x128 ![] bcast_S_S4x1024x32x128 main_cst_1
  let main_v8 : IVec S4x1024x32x128 1 := cmpf .olt main_v6 main_v7
  (main_v2, main_v5, main_v8)
-- ==== Kernel.lean ====
abbrev S4x256x1024 : Shape := ⟨3, ![4, 256, 1024]⟩
abbrev S1024x1024 : Shape := ⟨2, ![1024, 1024]⟩
abbrev S4x1024x32x128 : Shape := ⟨4, ![4, 1024, 32, 128]⟩
abbrev S256x1024 : Shape := ⟨2, ![256, 1024]⟩
abbrev S2x8x1024x128 : Shape := ⟨4, ![2, 8, 1024, 128]⟩
abbrev S3x256x1024 : Shape := ⟨3, ![3, 256, 1024]⟩
abbrev S2x256x1024 : Shape := ⟨3, ![2, 256, 1024]⟩
abbrev S2x2 : Shape := ⟨2, ![2, 2]⟩
abbrev S3x2 : Shape := ⟨2, ![3, 2]⟩
abbrev S2 : Shape := ⟨1, ![2]⟩
abbrev S_ : Shape := ⟨0, ![]⟩
abbrev S1x1 : Shape := ⟨2, ![1, 1]⟩
abbrev S1x1x1024x128 : Shape := ⟨4, ![1, 1, 1024, 128]⟩
abbrev S1024x128 : Shape := ⟨2, ![1024, 128]⟩
abbrev S1x1024x1x128 : Shape := ⟨4, ![1, 1024, 1, 128]⟩
abbrev S128x128 : Shape := ⟨2, ![128, 128]⟩
abbrev S128x1024 : Shape := ⟨2, ![128, 1024]⟩
abbrev S128 : Shape := ⟨1, ![128]⟩
abbrev S128x1 : Shape := ⟨2, ![128, 1]⟩
abbrev S1x128x1024 : Shape := ⟨3, ![1, 128, 1024]⟩
abbrev S1 : Shape := ⟨1, ![1]⟩
abbrev S1x256x1024 : Shape := ⟨3, ![1, 256, 1024]⟩

abbrev nBuf : Space → Nat
  | .hbm => 6
  | .vmem => 15
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S4x1024x32x128, .f32⟩
  | .hbm, ⟨4, _⟩ => ⟨S4x1024x32x128, .f32⟩
  | .hbm, ⟨5, _⟩ => ⟨S1024x1024, .bf16⟩
  | .local _ .vmem, ⟨0, _⟩ => ⟨S4x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S256x1024, .bf16⟩
  | .local _ .vmem, ⟨5, _⟩ => ⟨S2x8x1024x128, .f32⟩
  | .local _ .vmem, ⟨6, _⟩ => ⟨S2x8x1024x128, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S3x256x1024, .bf16⟩
  | .local _ .vmem, ⟨11, _⟩ => ⟨S3x256x1024, .bf16⟩
  | .local _ .vmem, ⟨12, _⟩ => ⟨S256x1024, .bf16⟩
  | .local _ .vmem, ⟨13, _⟩ => ⟨S2x256x1024, .bf16⟩
  | .local _ .vmem, ⟨14, _⟩ => ⟨S256x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) (c0_i32_10 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.addi v2 c0_i32
  let c4_i32_5 : BitVec 32 := 4#32
  let v10 : BitVec 32 := Scalar.remsi v9 c4_i32_5
  let c0_i32_18 : BitVec 32 := 0#32
  let c8_i32 : BitVec 32 := 8#32
  let v8 : BitVec 32 := Scalar.muli v2 c8_i32
  let v17 : BitVec 32 := Scalar.addi v8 c0_i32_10
  let c0_i32_19 : BitVec 32 := 0#32
  ![v10.toNat, 0, v17.toNat, 0]
def k0_dev1 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_152 : BitVec 32 := 1#32
  let v130 : BitVec 32 := Scalar.muli v5 c1_i32_152
  let v131 : BitVec 32 := Scalar.addi c0_i32_153 v130
  v131.toNat
def k0_dev2 (d0 : Dev nD) : Nat :=
  let c0_i32_156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_155 : BitVec 32 := 1#32
  let v132 : BitVec 32 := Scalar.muli v7 c1_i32_155
  let v133 : BitVec 32 := Scalar.addi c0_i32_156 v132
  v133.toNat
def k0_off2 (d0 : Dev nD) (c0_i32 : BitVec 32) (c0_i32_445 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.addi v2 c0_i32
  let c4_i32_5 : BitVec 32 := 4#32
  let v10 : BitVec 32 := Scalar.remsi v9 c4_i32_5
  let c256_i32 : BitVec 32 := 256#32
  let v366 : BitVec 32 := Scalar.muli v10 c256_i32
  let v367 : BitVec 32 := Scalar.addi v366 c0_i32_445
  let v368 : Index := Scalar.indexCast v367
  let c0_446 : Index := 0#32
  ![v368.toNat, 0]
def k0_off3 (d0 : Dev nD) (c0_i32 : BitVec 32) (c0_i32_461 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.addi v2 c0_i32
  let c4_i32_5 : BitVec 32 := 4#32
  let v10 : BitVec 32 := Scalar.remsi v9 c4_i32_5
  let c256_i32_460 : BitVec 32 := 256#32
  let v388 : BitVec 32 := Scalar.muli v10 c256_i32_460
  let v389 : BitVec 32 := Scalar.addi v388 c0_i32_461
  let v390 : Index := Scalar.indexCast v389
  let c128 : Index := 128#32
  ![v390.toNat, 128]
def k0_off4 (d0 : Dev nD) (c0_i32 : BitVec 32) (c0_i32_475 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.addi v2 c0_i32
  let c4_i32_5 : BitVec 32 := 4#32
  let v10 : BitVec 32 := Scalar.remsi v9 c4_i32_5
  let c256_i32_474 : BitVec 32 := 256#32
  let v410 : BitVec 32 := Scalar.muli v10 c256_i32_474
  let v411 : BitVec 32 := Scalar.addi v410 c0_i32_475
  let v412 : Index := Scalar.indexCast v411
  let c256 : Index := 256#32
  ![v412.toNat, 256]
def k0_off5 (d0 : Dev nD) (c0_i32 : BitVec 32) (c0_i32_489 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.addi v2 c0_i32
  let c4_i32_5 : BitVec 32 := 4#32
  let v10 : BitVec 32 := Scalar.remsi v9 c4_i32_5
  let c256_i32_488 : BitVec 32 := 256#32
  let v432 : BitVec 32 := Scalar.muli v10 c256_i32_488
  let v433 : BitVec 32 := Scalar.addi v432 c0_i32_489
  let v434 : Index := Scalar.indexCast v433
  let c384 : Index := 384#32
  ![v434.toNat, 384]
def k0_off6 (d0 : Dev nD) (c0_i32 : BitVec 32) (c0_i32_503 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.addi v2 c0_i32
  let c4_i32_5 : BitVec 32 := 4#32
  let v10 : BitVec 32 := Scalar.remsi v9 c4_i32_5
  let c256_i32_502 : BitVec 32 := 256#32
  let v454 : BitVec 32 := Scalar.muli v10 c256_i32_502
  let v455 : BitVec 32 := Scalar.addi v454 c0_i32_503
  let v456 : Index := Scalar.indexCast v455
  let c512 : Index := 512#32
  ![v456.toNat, 512]
def k0_off7 (d0 : Dev nD) (c0_i32 : BitVec 32) (c0_i32_517 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.addi v2 c0_i32
  let c4_i32_5 : BitVec 32 := 4#32
  let v10 : BitVec 32 := Scalar.remsi v9 c4_i32_5
  let c256_i32_516 : BitVec 32 := 256#32
  let v476 : BitVec 32 := Scalar.muli v10 c256_i32_516
  let v477 : BitVec 32 := Scalar.addi v476 c0_i32_517
  let v478 : Index := Scalar.indexCast v477
  let c640 : Index := 640#32
  ![v478.toNat, 640]
def k0_off8 (d0 : Dev nD) (c0_i32 : BitVec 32) (c0_i32_531 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.addi v2 c0_i32
  let c4_i32_5 : BitVec 32 := 4#32
  let v10 : BitVec 32 := Scalar.remsi v9 c4_i32_5
  let c256_i32_530 : BitVec 32 := 256#32
  let v498 : BitVec 32 := Scalar.muli v10 c256_i32_530
  let v499 : BitVec 32 := Scalar.addi v498 c0_i32_531
  let v500 : Index := Scalar.indexCast v499
  let c768 : Index := 768#32
  ![v500.toNat, 768]
def k0_off9 (d0 : Dev nD) (c0_i32 : BitVec 32) (c0_i32_545 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.addi v2 c0_i32
  let c4_i32_5 : BitVec 32 := 4#32
  let v10 : BitVec 32 := Scalar.remsi v9 c4_i32_5
  let c256_i32_544 : BitVec 32 := 256#32
  let v520 : BitVec 32 := Scalar.muli v10 c256_i32_544
  let v521 : BitVec 32 := Scalar.addi v520 c0_i32_545
  let v522 : Index := Scalar.indexCast v521
  let c896 : Index := 896#32
  ![v522.toNat, 896]
def k0_dev3 (d0 : Dev nD) : Nat :=
  let c0_i32_573 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_572 : BitVec 32 := 1#32
  let v549 : BitVec 32 := Scalar.muli v7 c1_i32_572
  let v550 : BitVec 32 := Scalar.addi c0_i32_573 v549
  v550.toNat
def k0_dev4 (d0 : Dev nD) : Nat :=
  let c0_i32_720 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_719 : BitVec 32 := 1#32
  let v742 : BitVec 32 := Scalar.muli v7 c1_i32_719
  let v743 : BitVec 32 := Scalar.addi c0_i32_720 v742
  v743.toNat
def k0_dev5 (d0 : Dev nD) : Nat :=
  let c0_i32_1155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1154 : BitVec 32 := 1#32
  let v1155 : BitVec 32 := Scalar.muli v7 c1_i32_1154
  let v1156 : BitVec 32 := Scalar.addi c0_i32_1155 v1155
  v1156.toNat
def k0_dev6 (d0 : Dev nD) : Nat :=
  let c0_i32_1318 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1317 : BitVec 32 := 1#32
  let v1360 : BitVec 32 := Scalar.muli v7 c1_i32_1317
  let v1361 : BitVec 32 := Scalar.addi c0_i32_1318 v1360
  v1361.toNat
def k0_dev7 (d0 : Dev nD) : Nat :=
  let c0_i32_1753 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1752 : BitVec 32 := 1#32
  let v1773 : BitVec 32 := Scalar.muli v7 c1_i32_1752
  let v1774 : BitVec 32 := Scalar.addi c0_i32_1753 v1773
  v1774.toNat
def k0_dev8 (d0 : Dev nD) : Nat :=
  let c0_i32_1916 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1915 : BitVec 32 := 1#32
  let v1978 : BitVec 32 := Scalar.muli v7 c1_i32_1915
  let v1979 : BitVec 32 := Scalar.addi c0_i32_1916 v1978
  v1979.toNat
def k0_off10 (d0 : Dev nD) (c0_i32_2198 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v15 : BitVec 32 := Scalar.addi v2 c1_i32_8
  let c4_i32_9 : BitVec 32 := 4#32
  let v16 : BitVec 32 := Scalar.remsi v15 c4_i32_9
  let c256_i32_2197 : BitVec 32 := 256#32
  let v2276 : BitVec 32 := Scalar.muli v16 c256_i32_2197
  let v2277 : BitVec 32 := Scalar.addi v2276 c0_i32_2198
  let v2278 : Index := Scalar.indexCast v2277
  let c0_2199 : Index := 0#32
  ![v2278.toNat, 0]
def k0_dev9 (d0 : Dev nD) : Nat :=
  let c0_i32_2206 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2205 : BitVec 32 := 1#32
  let v2283 : BitVec 32 := Scalar.muli v7 c1_i32_2205
  let v2284 : BitVec 32 := Scalar.addi c0_i32_2206 v2283
  v2284.toNat
def k0_dev10 (d0 : Dev nD) : Nat :=
  let c0_i32_2214 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2213 : BitVec 32 := 1#32
  let v2292 : BitVec 32 := Scalar.muli v5 c1_i32_2213
  let v2293 : BitVec 32 := Scalar.addi c0_i32_2214 v2292
  v2293.toNat
def k0_dev11 (d0 : Dev nD) : Nat :=
  let c0_i32_2376 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2375 : BitVec 32 := 1#32
  let v2499 : BitVec 32 := Scalar.muli v7 c1_i32_2375
  let v2500 : BitVec 32 := Scalar.addi c0_i32_2376 v2499
  v2500.toNat
def k0_dev12 (d0 : Dev nD) : Nat :=
  let c0_i32_2384 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2383 : BitVec 32 := 1#32
  let v2508 : BitVec 32 := Scalar.muli v5 c1_i32_2383
  let v2509 : BitVec 32 := Scalar.addi c0_i32_2384 v2508
  v2509.toNat
def k0_dev13 (d0 : Dev nD) : Nat :=
  let c0_i32_2401 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2400 : BitVec 32 := 1#32
  let v2523 : BitVec 32 := Scalar.muli v7 c1_i32_2400
  let v2524 : BitVec 32 := Scalar.addi c0_i32_2401 v2523
  v2524.toNat
def k0_dev14 (d0 : Dev nD) : Nat :=
  let c0_i32_2416 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2415 : BitVec 32 := 1#32
  let v2535 : BitVec 32 := Scalar.muli v5 c1_i32_2415
  let v2536 : BitVec 32 := Scalar.addi c0_i32_2416 v2535
  v2536.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_2433 : BitVec 32 := 256#32
  let v2549 : BitVec 32 := Scalar.muli v2 c256_i32_2433
  let v2550 : Index := Scalar.indexCast v2549
  let c0_2434 : Index := 0#32
  ![v2550.toNat, 0]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2443 : BitVec 32 := 2#32
  let v2558 : BitVec 32 := Scalar.addi v2 c2_i32_2443
  let c4_i32_2444 : BitVec 32 := 4#32
  let v2559 : BitVec 32 := Scalar.remsi v2558 c4_i32_2444
  let c256_i32_2447 : BitVec 32 := 256#32
  let v2561 : BitVec 32 := Scalar.muli v2559 c256_i32_2447
  let v2562 : Index := Scalar.indexCast v2561
  let c0_2448 : Index := 0#32
  ![v2562.toNat, 0]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2464 : BitVec 32 := 4#32
  let v2575 : BitVec 32 := Scalar.addi v2 c4_i32_2464
  let c1_i32_2465 : BitVec 32 := 1#32
  let v2576 : BitVec 32 := Scalar.subi v2575 c1_i32_2465
  let c4_i32_2466 : BitVec 32 := 4#32
  let v2577 : BitVec 32 := Scalar.remsi v2576 c4_i32_2466
  let c256_i32_2470 : BitVec 32 := 256#32
  let v2580 : BitVec 32 := Scalar.muli v2577 c256_i32_2470
  let v2581 : Index := Scalar.indexCast v2580
  let c0_2471 : Index := 0#32
  ![v2581.toNat, 0]
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x256x1024 : Shape := ⟨3, ![4, 256, 1024]⟩
abbrev S1024x4096 : Shape := ⟨2, ![1024, 4096]⟩
abbrev S4096x1024 : Shape := ⟨2, ![4096, 1024]⟩
abbrev S4x1024x32x128 : Shape := ⟨4, ![4, 1024, 32, 128]⟩
abbrev S4x256x4096 : Shape := ⟨3, ![4, 256, 4096]⟩
abbrev S4x256x32x128 : Shape := ⟨4, ![4, 256, 32, 128]⟩
abbrev S4x32x256x1024 : Shape := ⟨4, ![4, 32, 256, 1024]⟩
abbrev S_ : Shape := ⟨0, ![]⟩
abbrev S4x32x256 : Shape := ⟨3, ![4, 32, 256]⟩
abbrev S4x32x256x1 : Shape := ⟨4, ![4, 32, 256, 1]⟩
abbrev S4x32x128x256 : Shape := ⟨4, ![4, 32, 128, 256]⟩
abbrev S4x256x32x1 : Shape := ⟨4, ![4, 256, 32, 1]⟩
abbrev S1024x1024 : Shape := ⟨2, ![1024, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x4096, .f32⟩
  | .hbm, ⟨2, _⟩ => ⟨S4096x1024, .f32⟩
  | .hbm, ⟨3, _⟩ => ⟨S4x1024x32x128, .f32⟩
  | .hbm, ⟨4, _⟩ => ⟨S4x1024x32x128, .f32⟩
  | .hbm, ⟨5, _⟩ => ⟨S4x256x4096, .f32⟩
  | .hbm, ⟨6, _⟩ => ⟨S4x256x32x128, .f32⟩
  | .hbm, ⟨7, _⟩ => ⟨S4x32x256x1024, .f32⟩
  | .hbm, ⟨8, _⟩ => ⟨S_, .f32⟩
  | .hbm, ⟨9, _⟩ => ⟨S4x32x256x1024, .f32⟩
  | .hbm, ⟨10, _⟩ => ⟨S4x32x256x1024, .f32⟩
  | .hbm, ⟨11, _⟩ => ⟨S_, .f32⟩
  | .hbm, ⟨12, _⟩ => ⟨S4x32x256, .f32⟩
  | .hbm, ⟨13, _⟩ => ⟨S4x32x256x1, .f32⟩
  | .hbm, ⟨14, _⟩ => ⟨S4x32x256x1024, .f32⟩
  | .hbm, ⟨15, _⟩ => ⟨S4x32x256x1024, .f32⟩
  | .hbm, ⟨16, _⟩ => ⟨S4x32x256x1024, .f32⟩
  | .hbm, ⟨17, _⟩ => ⟨S_, .f32⟩
  | .hbm, ⟨18, _⟩ => ⟨S4x32x256, .f32⟩
  | .hbm, ⟨19, _⟩ => ⟨S4x32x256x1, .f32⟩
  | .hbm, ⟨20, _⟩ => ⟨S4x32x128x256, .f32⟩
  | .hbm, ⟨21, _⟩ => ⟨S4x256x32x128, .f32⟩
  | .hbm, ⟨22, _⟩ => ⟨S4x256x32x1, .f32⟩
  | .hbm, ⟨23, _⟩ => ⟨S4x256x32x128, .f32⟩
  | .hbm, ⟨24, _⟩ => ⟨S4x256x32x128, .f32⟩
  | .hbm, ⟨25, _⟩ => ⟨S4x256x4096, .f32⟩
  | .hbm, ⟨26, _⟩ => ⟨S4x256x1024, .f32⟩
  | .hbm, ⟨27, _⟩ => ⟨S1024x1024, .f32⟩
  | .hbm, ⟨28, _⟩ => ⟨S1024x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.Prog.lean ====
/-
  The kernel body as a short program: its repeated stretches (the fetches of a block's keys and values, the waits for them, one
  head's attention, one half's heads and output projection, one transfer to a neighbour) written once over their indices, and the
  printed body equal to the sequence of them.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.KernelIdeal.Gen

open Idealize.ShloMosaic Idealize.ShloMosaic.TcCoe Idealize.SL.Sem

variable {F : FTy → Type} [FloatOps F]

/-! ## The buffers by name -/

abbrev xM : Memref sig .tc .vmem S4x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S1024x1024 .bf16 := Memref.whole cc0_stg3_0
abbrev kM : Memref sig .tc .hbm S4x1024x32x128 .f32 := Memref.whole main_arg3
abbrev vM : Memref sig .tc .hbm S4x1024x32x128 .f32 := Memref.whole main_arg4
abbrev attnM : Memref sig .tc .vmem S256x1024 .bf16 := Memref.whole cc0_scratch0
abbrev kbM : Memref sig .tc .vmem S2x8x1024x128 .f32 := Memref.whole cc0_scratch1
abbrev vbM : Memref sig .tc .vmem S2x8x1024x128 .f32 := Memref.whole cc0_scratch2
abbrev wqbM : Memref sig .tc .vmem S1024x1024 .bf16 := Memref.whole cc0_scratch3
abbrev wobM : Memref sig .tc .vmem S1024x1024 .bf16 := Memref.whole cc0_scratch4
abbrev qbM : Memref sig .tc .vmem S1024x1024 .bf16 := Memref.whole cc0_scratch5
abbrev rsSM : Memref sig .tc .vmem S3x256x1024 .bf16 := Memref.whole cc0_scratch6
abbrev rsRM : Memref sig .tc .vmem S3x256x1024 .bf16 := Memref.whole cc0_scratch7
abbrev agSM : Memref sig .tc .vmem S256x1024 .bf16 := Memref.whole cc0_scratch8
abbrev agRM : Memref sig .tc .vmem S2x256x1024 .bf16 := Memref.whole cc0_scratch9
abbrev agLM : Memref sig .tc .vmem S256x1024 .bf16 := Memref.whole cc0_scratch10

/-! ## Where the windows start -/

theorem kv_inb : ∀ (s : Fin 2) (h : Fin 8), ∀ a, (![s.val, h.val, 0, 0] : Fin 4 → Nat) a + S1x1x1024x128.size a ≤ S2x8x1024x128.size a := by decide
theorem sem22_inb : ∀ (s k : Fin 2), ∀ a, (![s.val, k.val] : Fin 2 → Nat) a + S1x1.size a ≤ S2x2.size a := by decide
theorem sem32_inb : ∀ (t : Fin 3) (k : Fin 2), ∀ a, (![t.val, k.val] : Fin 2 → Nat) a + S1x1.size a ≤ S3x2.size a := by decide
theorem sem2_inb : ∀ (k : Fin 2), ∀ a, (![k.val] : Fin 1 → Nat) a + S1.size a ≤ S2.size a := by decide
theorem attn_inb : ∀ (p : Fin 2) (h : Fin 8), ∀ a, (![128 * p.val, 128 * h.val] : Fin 2 → Nat) a + S128x128.size a ≤ S256x1024.size a := by decide
theorem attn_packed : ∀ (p : Fin 2) (h : Fin 8), (Rect.unit (s := S256x1024) ![128 * p.val, 128 * h.val] S128x128.size (attn_inb p h)).PackedRows (EltTy.packing .bf16) := by decide
theorem half_inb : ∀ (p : Fin 2), ∀ a, (![128 * p.val, 0] : Fin 2 → Nat) a + S128x1024.size a ≤ S256x1024.size a := by decide
theorem half_packed : ∀ (p : Fin 2), (Rect.unit (s := S256x1024) ![128 * p.val, 0] S128x1024.size (half_inb p)).PackedRows (EltTy.packing .bf16) := by decide
theorem half_words : ∀ (p : Fin 2), (Rect.unit (s := S256x1024) ![128 * p.val, 0] S128x1024.size (half_inb p)).WholeWords (EltTy.packing .bf16) := by decide
theorem rs_inb : ∀ (t : Fin 3) (p : Fin 2), ∀ a, (![t.val, 128 * p.val, 0] : Fin 3 → Nat) a + S1x128x1024.size a ≤ S3x256x1024.size a := by decide
theorem rs_packed : ∀ (t : Fin 3) (p : Fin 2), (Rect.unit (s := S3x256x1024) ![t.val, 128 * p.val, 0] S1x128x1024.size (rs_inb t p)).PackedRows (EltTy.packing .bf16) := by decide
theorem rs_words : ∀ (t : Fin 3) (p : Fin 2), (Rect.unit (s := S3x256x1024) ![t.val, 128 * p.val, 0] S1x128x1024.size (rs_inb t p)).WholeWords (EltTy.packing .bf16) := by decide
theorem ag_inb : ∀ (t p : Fin 2), ∀ a, (![t.val, 128 * p.val, 0] : Fin 3 → Nat) a + S1x128x1024.size a ≤ S2x256x1024.size a := by decide
theorem ag_words : ∀ (t p : Fin 2), (Rect.unit (s := S2x256x1024) ![t.val, 128 * p.val, 0] S1x128x1024.size (ag_inb t p)).WholeWords (EltTy.packing .bf16) := by decide
theorem agw_inb : ∀ (t : Fin 2), ∀ a, (![t.val, 0, 0] : Fin 3 → Nat) a + S1x256x1024.size a ≤ S2x256x1024.size a := by decide

/-- Where head `h`'s columns of the `p`th half of the rows of block `(device + o) % 4` start in the query buffer. -/
def qOff (d : Dev nD) (o : Fin 4) (p : Fin 2) (h : Fin 8) : Fin 2 → Nat :=
  ![(k0_off2 d (BitVec.ofNat 32 o.val) (BitVec.ofNat 32 (128 * p.val))) 0, 128 * h.val]

theorem qOff_inb (d : Dev nD) (o : Fin 4) (p : Fin 2) (h : Fin 8) : ∀ a, qOff d o p h a + S128x128.size a ≤ S1024x1024.size a := by
  have h0 := k0_off2_inb d o p 0
  intro a
  match a with
  | 0 => exact h0
  | 1 => show 128 * h.val + 128 ≤ 1024; omega

/-! ## The windows -/

abbrev kbW (s : Fin 2) (h : Fin 8) : Memref sig .tc .vmem S1024x128 .f32 :=
  (kbM.slice (Rect.unit (s := S2x8x1024x128) ![s.val, h.val, 0, 0] S1x1x1024x128.size (kv_inb s h)) (fun _ => rfl)).squeeze S1024x128 squeezes_S1x1x1024x128_S1024x128
abbrev vbW (s : Fin 2) (h : Fin 8) : Memref sig .tc .vmem S1024x128 .f32 :=
  (vbM.slice (Rect.unit (s := S2x8x1024x128) ![s.val, h.val, 0, 0] S1x1x1024x128.size (kv_inb s h)) (fun _ => rfl)).squeeze S1024x128 squeezes_S1x1x1024x128_S1024x128
abbrev kW (d : Dev nD) (o : Fin 4) (h : Fin 8) : Memref sig .tc .hbm S1024x128 .f32 :=
  (kM.slice (Rect.unit (s := S4x1024x32x128) (k0_off1 d (BitVec.ofNat 32 o.val) (BitVec.ofNat 32 h.val)) S1x1024x1x128.size (k0_off1_inb d o h)) (fun _ => rfl)).squeeze S1024x128 squeezes_S1x1024x1x128_S1024x128
abbrev vW (d : Dev nD) (o : Fin 4) (h : Fin 8) : Memref sig .tc .hbm S1024x128 .f32 :=
  (vM.slice (Rect.unit (s := S4x1024x32x128) (k0_off1 d (BitVec.ofNat 32 o.val) (BitVec.ofNat 32 h.val)) S1x1024x1x128.size (k0_off1_inb d o h)) (fun _ => rfl)).squeeze S1024x128 squeezes_S1x1024x1x128_S1024x128
abbrev rsSW (t : Fin 3) (p : Fin 2) : Memref sig .tc .vmem S128x1024 .bf16 :=
  (rsSM.slice (Rect.unit (s := S3x256x1024) ![t.val, 128 * p.val, 0] S1x128x1024.size (rs_inb t p)) (fun _ => rfl)).squeeze S128x1024 squeezes_S1x128x1024_S128x1024
abbrev rsRW (t : Fin 3) (p : Fin 2) : Memref sig .tc .vmem S128x1024 .bf16 :=
  (rsRM.slice (Rect.unit (s := S3x256x1024) ![t.val, 128 * p.val, 0] S1x128x1024.size (rs_inb t p)) (fun _ => rfl)).squeeze S128x1024 squeezes_S1x128x1024_S128x1024
abbrev agSW (p : Fin 2) : Memref sig .tc .vmem S128x1024 .bf16 :=
  agSM.slice (Rect.unit (s := S256x1024) ![128 * p.val, 0] S128x1024.size (half_inb p)) (fun _ => rfl)
abbrev agLW (p : Fin 2) : Memref sig .tc .vmem S128x1024 .bf16 :=
  agLM.slice (Rect.unit (s := S256x1024) ![128 * p.val, 0] S128x1024.size (half_inb p)) (fun _ => rfl)
abbrev agRW (t p : Fin 2) : Memref sig .tc .vmem S128x1024 .bf16 :=
  (agRM.slice (Rect.unit (s := S2x256x1024) ![t.val, 128 * p.val, 0] S1x128x1024.size (ag_inb t p)) (fun _ => rfl)).squeeze S128x1024 squeezes_S1x128x1024_S128x1024

theorem rsSW_words (t : Fin 3) (p : Fin 2) : (rsSW t p).view.WordExact := ((Memref.isWhole_whole (κ := .tc) cc0_scratch6).wordExact_slice rfl _ (rs_words t p)).reshape _ _
theorem rsRW_words (t : Fin 3) (p : Fin 2) : (rsRW t p).view.WordExact := ((Memref.isWhole_whole (κ := .tc) cc0_scratch7).wordExact_slice rfl _ (rs_words t p)).reshape _ _
theorem agSW_words (p : Fin 2) : (agSW p).view.WordExact := (Memref.isWhole_whole (κ := .tc) cc0_scratch8).wordExact_slice rfl _ (half_words p)
theorem agLW_words (p : Fin 2) : (agLW p).view.WordExact := (Memref.isWhole_whole (κ := .tc) cc0_scratch10).wordExact_slice rfl _ (half_words p)
theorem agRW_words (t p : Fin 2) : (agRW t p).view.WordExact := ((Memref.isWhole_whole (κ := .tc) cc0_scratch9).wordExact_slice rfl _ (ag_words t p)).reshape _ _

/-! ## The semaphores -/

abbrev kvSem (s k : Fin 2) : DmaSem sig :=
  ((cc0_scratch11.slice (Rect.unit (s := S2x2) ![s.val, k.val] S1x1.size (sem22_inb s k))).squeeze S_ squeezes_S1x1_S_).sem
abbrev rsSS (t : Fin 3) (p : Fin 2) : DmaSem sig :=
  ((cc0_scratch12.slice (Rect.unit (s := S3x2) ![t.val, p.val] S1x1.size (sem32_inb t p))).squeeze S_ squeezes_S1x1_S_).sem
abbrev rsRS (t : Fin 3) (p : Fin 2) : DmaSem sig :=
  ((cc0_scratch13.slice (Rect.unit (s := S3x2) ![t.val, p.val] S1x1.size (sem32_inb t p))).squeeze S_ squeezes_S1x1_S_).sem
abbrev agSS (p : Fin 2) : DmaSem sig :=
  ((cc0_scratch14.slice (Rect.unit (s := S2) ![p.val] S1.size (sem2_inb p))).squeeze S_ squeezes_S1_S_).sem
abbrev agRS (p : Fin 2) : DmaSem sig :=
  ((cc0_scratch15.slice (Rect.unit (s := S2) ![p.val] S1.size (sem2_inb p))).squeeze S_ squeezes_S1_S_).sem
abbrev agLSS (p : Fin 2) : DmaSem sig :=
  ((cc0_scratch16.slice (Rect.unit (s := S2) ![p.val] S1.size (sem2_inb p))).squeeze S_ squeezes_S1_S_).sem
abbrev agLRS (p : Fin 2) : DmaSem sig :=
  ((cc0_scratch17.slice (Rect.unit (s := S2) ![p.val] S1.size (sem2_inb p))).squeeze S_ squeezes_S1_S_).sem
abbrev barS : Sem sig := (SemArray.scalar (sig.barrier 0 rfl) : Sems sig S_).sem

/-! ## The stretches -/

abbrev P (F : FTy → Type) [FloatOps F] (α : Type) := Prog (TpuEff nD τ sig (Elt F) Λ₀ .tc) α

/-- Eight steps in order. -/
def eight (f : Fin 8 → P F PUnit) : P F PUnit := do
  f 0; f 1; f 2; f 3; f 4; f 5; f 6; f 7

/-- Head `h`'s keys and values of block `(device + o) % 4` start on their way to slot `s`. -/
def fetchH (d : Dev nD) (o : Fin 4) (s : Fin 2) (h : Fin 8) : P F PUnit := do
  Prog.lift (.enqueueDma (kW d o h) (.here (kbW s h)) (.dma (kvSem s 0)) ((View.wordExact_bits rfl).reshape _ _) ((View.wordExact_bits rfl).reshape _ _) ⟨Or.inl rfl, trivial⟩)
  Prog.lift (.enqueueDma (vW d o h) (.here (vbW s h)) (.dma (kvSem s 1)) ((View.wordExact_bits rfl).reshape _ _) ((View.wordExact_bits rfl).reshape _ _) ⟨Or.inl rfl, trivial⟩)

/-- One of the waits for them. -/
def awaitH (d : Dev nD) (o : Fin 4) (s : Fin 2) (h : Fin 8) : P F PUnit := do
  Prog.lift (.waitDma2 (kvSem s 0) (kW d o h) (kbW s h) ((View.wordExact_bits rfl).reshape _ _) ((View.wordExact_bits rfl).reshape _ _))
  Prog.lift (.waitDma2 (kvSem s 1) (vW d o h) (vbW s h) ((View.wordExact_bits rfl).reshape _ _) ((View.wordExact_bits rfl).reshape _ _))

/-- Head `h` of half `p`: its attention into its columns of the attention buffer. -/
def headM (d : Dev nD) (o : Fin 4) (s p : Fin 2) (h : Fin 8) : P F PUnit := do
  let q : Vec F S128x128 .bf16 ← Prog.lift (.load qbM (Rect.unit (s := S1024x1024) (qOff d o p h) S128x128.size (qOff_inb d o p h)).toLoadRect (View.loadsAt_vmem h_S128x128))
  let k : Vec F S1x1x1024x128 .f32 ← Prog.lift (.load kbM (Rect.unit (s := S2x8x1024x128) ![s.val, h.val, 0, 0] S1x1x1024x128.size (kv_inb s h)).toLoadRect (View.loadsAt_vmem h_S1x1x1024x128))
  let v : Vec F S1x1x1024x128 .f32 ← Prog.lift (.load vbM (Rect.unit (s := S2x8x1024x128) ![s.val, h.val, 0, 0] S1x1x1024x128.size (kv_inb s h)).toLoadRect (View.loadsAt_vmem h_S1x1x1024x128))
  let _ : Vec F S128x128 .bf16 ← Prog.lift (.load attnM (Rect.unit (s := S256x1024) ![128 * p.val, 128 * h.val] S128x128.size (attn_inb p h)).toLoadRect (View.loadsAt_vmem h_S128x128))
  Prog.lift (.store attnM (Rect.unit (s := S256x1024) ![128 * p.val, 128 * h.val] S128x128.size (attn_inb p h)) (k0_pay8 q k v) Finset.univ (View.stores_vmem h_S128x128 ((Memref.isWhole_whole (κ := .tc) cc0_scratch0).storeExact_slice rfl _ (attn_packed p h)) (fun _ => rfl)) (.inl rfl))

/-- The product of a half's attention with the projection. -/
def project (a : Vec F S128x1024 .bf16) (w : Vec F S1024x1024 .bf16) : FVec F S128x1024 .f32 :=
  matmul dot_S128x1024_S1024x1024_S128x1024_1_0_0_1_n_n none a w (constant S128x1024 .f32 0x00000000#32)

/-- Half `p`'s heads and their projection. -/
def halfM (d : Dev nD) (o : Fin 4) (s p : Fin 2) : P F (FVec F S128x1024 .f32) := do
  eight (headM d o s p)
  let a : Vec F S128x1024 .bf16 ← Prog.lift (.load attnM (Rect.unit (s := S256x1024) ![128 * p.val, 0] S128x1024.size (half_inb p)).toLoadRect (View.loadsAt_vmem h_S128x1024))
  let w : Vec F S1024x1024 .bf16 ← Prog.lift (.load wobM (Rect.unit (s := S1024x1024) ![0, 0] S1024x1024.size inb_S1024x1024_S1024x1024_0_0).toLoadRect (View.loadsAt_vmem h_S1024x1024))
  pure (project a w)

/-- What arrived added to one's own part, rounded. -/
def addPart (r : Vec F S1x128x1024 .bf16) (p : FVec F S128x1024 .f32) : FVec F S128x1024 .bf16 :=
  truncf .bf16 (addf (extf .f32 (shapeCast S128x1024 r shapeCasts_S1x128x1024_S128x1024) bitsLt_bf16_f32) p) bitsLt_bf16_f32

/-- A transfer of half a block to device `e`. -/
def sendM (src dst : Memref sig .tc .vmem S128x1024 .bf16) (hs : src.view.WordExact) (hd : dst.view.WordExact) (e : Dev nD) (ss rs : DmaSem sig) : P F PUnit :=
  Prog.lift (.enqueueDma src (.remote (Dev.tc e) dst (.dma ss)) (.dma rs) hs hd ⟨⟨rfl, Or.inl rfl⟩, trivial⟩)

/-- A wait for half a block on `sm`. -/
def waitM (sm : DmaSem sig) (src dst : Memref sig .tc .vmem S128x1024 .bf16) (hs : src.view.WordExact) (hd : dst.view.WordExact) : P F PUnit :=
  Prog.lift (.waitDma2 sm src dst hs hd)

/-- Half `p` of the sum to pass on at step `t` is written and sent to `e`. -/
def passM (t : Fin 3) (p : Fin 2) (v : FVec F S128x1024 .bf16) (e : Dev nD) : P F PUnit := do
  let _ : Vec F S1x128x1024 .bf16 ← Prog.lift (.load rsSM (Rect.unit (s := S3x256x1024) ![t.val, 128 * p.val, 0] S1x128x1024.size (rs_inb t p)).toLoadRect (View.loadsAt_vmem h_S1x128x1024))
  Prog.lift (.store rsSM (Rect.unit (s := S3x256x1024) ![t.val, 128 * p.val, 0] S1x128x1024.size (rs_inb t p)) (shapeCast S1x128x1024 v shapeCasts_S128x1024_S1x128x1024) Finset.univ (View.stores_vmem h_S1x128x1024 ((Memref.isWhole_whole (κ := .tc) cc0_scratch6).storeExact_slice rfl _ (rs_packed t p)) (fun _ => rfl)) (.inl rfl))
  sendM (rsSW t p) (rsRW t p) (rsSW_words t p) (rsRW_words t p) e (rsSS t p) (rsRS t p)

/-- The wait for the sum of step `t`, and its load. -/
def recvM (t : Fin 3) (p : Fin 2) : P F (Vec F S1x128x1024 .bf16) := do
  waitM (rsRS t p) (rsSW t p) (rsRW t p) (rsSW_words t p) (rsRW_words t p)
  Prog.lift (.load rsRM (Rect.unit (s := S3x256x1024) ![t.val, 128 * p.val, 0] S1x128x1024.size (rs_inb t p)).toLoadRect (View.loadsAt_vmem h_S1x128x1024))

/-- The first step's half: its own part alone. -/
def firstM (d : Dev nD) (p : Fin 2) (e : Dev nD) : P F PUnit := do
  let m ← halfM d 0 0 p
  passM 0 p (truncf .bf16 m bitsLt_bf16_f32) e

/-- A middle step's half: what arrived plus its own part. -/
def midM (d : Dev nD) (o : Fin 4) (s : Fin 2) (t t' : Fin 3) (p : Fin 2) (e : Dev nD) : P F PUnit := do
  let m ← halfM d o s p
  let r ← recvM t p
  passM t' p (addPart r m) e

/-- The last step's half: the finished sum into the result and to both neighbours. -/
def lastM (d : Dev nD) (p : Fin 2) (e e' : Dev nD) : P F PUnit := do
  let m ← halfM d 1 1 p
  let r ← recvM 2 p
  let _ : Vec F S128x1024 .bf16 ← Prog.lift (.load outM (Rect.unit (s := S1024x1024) (k0_off10 d (BitVec.ofNat 32 (128 * p.val))) S128x1024.size (k0_off10_inb d p)).toLoadRect (View.loadsAt_vmem h_S128x1024))
  Prog.lift (.store outM (Rect.unit (s := S1024x1024) (k0_off10 d (BitVec.ofNat 32 (128 * p.val))) S128x1024.size (k0_off10_inb d p)) (addPart r m) Finset.univ (View.stores_vmem h_S128x1024 ((Memref.isWhole_whole (κ := .tc) cc0_stg3_0).storeExact_slice rfl _ (k0_off10_packedbf16 d p)) (fun _ => rfl)) (.inl rfl))
  let _ : Vec F S128x1024 .bf16 ← Prog.lift (.load agSM (Rect.unit (s := S256x1024) ![128 * p.val, 0] S128x1024.size (half_inb p)).toLoadRect (View.loadsAt_vmem h_S128x1024))
  Prog.lift (.store agSM (Rect.unit (s := S256x1024) ![128 * p.val, 0] S128x1024.size (half_inb p)) (shapeCast S128x1024 (addPart r m) shapeCasts_S128x1024_S128x1024) Finset.univ (View.stores_vmem h_S128x1024 ((Memref.isWhole_whole (κ := .tc) cc0_scratch8).storeExact_slice rfl _ (half_packed p)) (fun _ => rfl)) (.inl rfl))
  sendM (agSW p) (agRW 0 p) (agSW_words p) (agRW_words 0 p) e (agSS p) (agRS p)
  sendM (agSW p) (agLW p) (agSW_words p) (agLW_words p) e' (agLSS p) (agLRS p)

/-- The weights rounded and the queries computed. -/
def prepM : P F PUnit := do
  let a : Vec F S1024x1024 .f32 ← Prog.lift (.load wqM (Rect.unit (s := S1024x1024) ![0, 0] S1024x1024.size inb_S1024x1024_S1024x1024_0_0).toLoadRect (View.loadsAt_vmem h_S1024x1024))
  let _ : Vec F S1024x1024 .bf16 ← Prog.lift (.load wqbM (Rect.unit (s := S1024x1024) ![0, 0] S1024x1024.size inb_S1024x1024_S1024x1024_0_0).toLoadRect (View.loadsAt_vmem h_S1024x1024))
  Prog.lift (.store wqbM (Rect.unit (s := S1024x1024) ![0, 0] S1024x1024.size inb_S1024x1024_S1024x1024_0_0) (k0_pay1 a) Finset.univ (View.stores_vmem h_S1024x1024 ((Memref.isWhole_whole (κ := .tc) cc0_scratch3).storeExact_slice rfl _ packedbf16_S1024x1024_S1024x1024_0_0) (fun _ => rfl)) (.inl rfl))
  let b : Vec F S1024x1024 .f32 ← Prog.lift (.load woM (Rect.unit (s := S1024x1024) ![0, 0] S1024x1024.size inb_S1024x1024_S1024x1024_0_0).toLoadRect (View.loadsAt_vmem h_S1024x1024))
  let _ : Vec F S1024x1024 .bf16 ← Prog.lift (.load wobM (Rect.unit (s := S1024x1024) ![0, 0] S1024x1024.size inb_S1024x1024_S1024x1024_0_0).toLoadRect (View.loadsAt_vmem h_S1024x1024))
  Prog.lift (.store wobM (Rect.unit (s := S1024x1024) ![0, 0] S1024x1024.size inb_S1024x1024_S1024x1024_0_0) (k0_pay2 b) Finset.univ (View.stores_vmem h_S1024x1024 ((Memref.isWhole_whole (κ := .tc) cc0_scratch4).storeExact_slice rfl _ packedbf16_S1024x1024_S1024x1024_0_0) (fun _ => rfl)) (.inl rfl))
  let x : Vec F S4x256x1024 .f32 ← Prog.lift (.load xM (Rect.unit (s := S4x256x1024) ![0, 0, 0] S4x256x1024.size inb_S4x256x1024_S4x256x1024_0_0_0).toLoadRect (View.loadsAt_vmem h_S4x256x1024))
  let w : Vec F S1024x1024 .bf16 ← Prog.lift (.load wqbM (Rect.unit (s := S1024x1024) ![0, 0] S1024x1024.size inb_S1024x1024_S1024x1024_0_0).toLoadRect (View.loadsAt_vmem h_S1024x1024))
  let _ : Vec F S1024x1024 .bf16 ← Prog.lift (.load qbM (Rect.unit (s := S1024x1024) ![0, 0] S1024x1024.size inb_S1024x1024_S1024x1024_0_0).toLoadRect (View.loadsAt_vmem h_S1024x1024))
  Prog.lift (.store qbM (Rect.unit (s := S1024x1024) ![0, 0] S1024x1024.size inb_S1024x1024_S1024x1024_0_0) (k0_pay4 (k0_pay3 x w)) Finset.univ (View.stores_vmem h_S1024x1024 ((Memref.isWhole_whole (κ := .tc) cc0_scratch5).storeExact_slice rfl _ packedbf16_S1024x1024_S1024x1024_0_0) (fun _ => rfl)) (.inl rfl))

/-- A gathered block stored into the result. -/
def putM (off : Fin 2 → Nat) (inb : ∀ a, off a + S256x1024.size a ≤ S1024x1024.size a)
    (hp : (Rect.unit (s := S1024x1024) off S256x1024.size inb).PackedRows (EltTy.packing .bf16)) (v : Vec F S256x1024 .bf16) : P F PUnit := do
  let _ : Vec F S256x1024 .bf16 ← Prog.lift (.load outM (Rect.unit (s := S1024x1024) off S256x1024.size inb).toLoadRect (View.loadsAt_vmem h_S256x1024))
  Prog.lift (.store outM (Rect.unit (s := S1024x1024) off S256x1024.size inb) v Finset.univ (View.stores_vmem h_S256x1024 ((Memref.isWhole_whole (κ := .tc) cc0_stg3_0).storeExact_slice rfl _ hp) (fun _ => rfl)) (.inl rfl))

/-- The load of one gathered block from the left. -/
def takeM (t : Fin 2) : P F (Vec F S1x256x1024 .bf16) :=
  Prog.lift (.load agRM (Rect.unit (s := S2x256x1024) ![t.val, 0, 0] S1x256x1024.size (agw_inb t)).toLoadRect (View.loadsAt_vmem h_S1x256x1024))

/-- The load of the gathered block from the right. -/
def takeLM : P F (Vec F S256x1024 .bf16) :=
  Prog.lift (.load agLM (Rect.unit (s := S256x1024) ![0, 0] S256x1024.size inb_S256x1024_S256x1024_0_0).toLoadRect (View.loadsAt_vmem h_S256x1024))

/-- The two signals and the wait that open the exchange. -/
def meetM (d : Dev nD) : P F PUnit := do
  semSignalWord (⟨k0_dev1 d, k0_dev1_lt d⟩ : Dev nD) barS 1#32
  semSignalWord (⟨k0_dev2 d, k0_dev2_lt d⟩ : Dev nD) barS 1#32
  semWaitWord barS 2#32

/-- The gather's waits, forwards and stores. -/
def gatherM (d : Dev nD) : P F PUnit := do
  waitM (agRS 0) (agSW 0) (agRW 0 0) (agSW_words 0) (agRW_words 0 0)
  sendM (agRW 0 0) (agRW 1 0) (agRW_words 0 0) (agRW_words 1 0) (⟨k0_dev13 d, k0_dev13_lt d⟩ : Dev nD) cc0_scratch18.sem cc0_scratch19.sem
  waitM (agLRS 1) (agSW 1) (agLW 1) (agSW_words 1) (agLW_words 1)
  sendM (agLW 1) (agRW 1 1) (agLW_words 1) (agRW_words 1 1) (⟨k0_dev14 d, k0_dev14_lt d⟩ : Dev nD) cc0_scratch20.sem cc0_scratch21.sem
  waitM (agRS 1) (agSW 1) (agRW 0 1) (agSW_words 1) (agRW_words 0 1)
  let a ← takeM 0
  putM (k0_off11 d) (k0_off11_inb d) (k0_off11_packedbf16 d) (shapeCast S256x1024 a shapeCasts_S1x256x1024_S256x1024)
  waitM (agLRS 0) (agSW 0) (agLW 0) (agSW_words 0) (agLW_words 0)
  let b ← takeLM
  putM (k0_off12 d) (k0_off12_inb d) (k0_off12_packedbf16 d) b
  waitM cc0_scratch19.sem (agRW 0 0) (agRW 1 0) (agRW_words 0 0) (agRW_words 1 0)
  waitM cc0_scratch21.sem (agLW 1) (agRW 1 1) (agLW_words 1) (agRW_words 1 1)
  let e ← takeM 1
  putM (k0_off13 d) (k0_off13_inb d) (k0_off13_packedbf16 d) (shapeCast S256x1024 e shapeCasts_S1x256x1024_S256x1024)

/-- The waits for the transfers' sources. -/
def drainM : P F PUnit := do
  waitM (rsSS 0 0) (rsRW 0 0) (rsSW 0 0) (rsRW_words 0 0) (rsSW_words 0 0)
  waitM (rsSS 0 1) (rsRW 0 1) (rsSW 0 1) (rsRW_words 0 1) (rsSW_words 0 1)
  waitM (rsSS 1 0) (rsRW 1 0) (rsSW 1 0) (rsRW_words 1 0) (rsSW_words 1 0)
  waitM (rsSS 1 1) (rsRW 1 1) (rsSW 1 1) (rsRW_words 1 1) (rsSW_words 1 1)
  waitM (rsSS 2 0) (rsRW 2 0) (rsSW 2 0) (rsRW_words 2 0) (rsSW_words 2 0)
  waitM (rsSS 2 1) (rsRW 2 1) (rsSW 2 1) (rsRW_words 2 1) (rsSW_words 2 1)
  waitM (agSS 0) (agRW 0 0) (agSW 0) (agRW_words 0 0) (agSW_words 0)
  waitM (agLSS 0) (agLW 0) (agSW 0) (agLW_words 0) (agSW_words 0)
  waitM (agSS 1) (agRW 0 1) (agSW 1) (agRW_words 0 1) (agSW_words 1)
  waitM (agLSS 1) (agLW 1) (agSW 1) (agLW_words 1) (agSW_words 1)
  waitM cc0_scratch18.sem (agRW 1 0) (agRW 0 0) (agRW_words 1 0) (agRW_words 0 0)
  waitM cc0_scratch20.sem (agRW 1 1) (agLW 1) (agRW_words 1 1) (agLW_words 1)

/-- The whole body on device `d`. -/
def bodyM (d : Dev nD) : P F PUnit := do
  eight (fetchH d 0 0)
  meetM d
  prepM
  eight (fetchH d 3 1)
  eight (awaitH d 0 0)
  firstM d 0 (⟨k0_dev3 d, k0_dev3_lt d⟩ : Dev nD)
  firstM d 1 (⟨k0_dev4 d, k0_dev4_lt d⟩ : Dev nD)
  eight (fetchH d 2 0)
  eight (awaitH d 3 1)
  midM d 3 1 0 1 0 (⟨k0_dev5 d, k0_dev5_lt d⟩ : Dev nD)
  midM d 3 1 0 1 1 (⟨k0_dev6 d, k0_dev6_lt d⟩ : Dev nD)
  eight (fetchH d 1 1)
  eight (awaitH d 2 0)
  midM d 2 0 1 2 0 (⟨k0_dev7 d, k0_dev7_lt d⟩ : Dev nD)
  midM d 2 0 1 2 1 (⟨k0_dev8 d, k0_dev8_lt d⟩ : Dev nD)
  eight (awaitH d 1 1)
  lastM d 0 (⟨k0_dev9 d, k0_dev9_lt d⟩ : Dev nD) (⟨k0_dev10 d, k0_dev10_lt d⟩ : Dev nD)
  lastM d 1 (⟨k0_dev11 d, k0_dev11_lt d⟩ : Dev nD) (⟨k0_dev12 d, k0_dev12_lt d⟩ : Dev nD)
  gatherM d
  drainM

end Cert.KernelIdeal.Gen
-- ==== Proof.Model.lean ====
/-
  What the kernel's buffers hold: the queries and weights of a device, a head's attention, the partial products, the sums that
  travel round the ring, and the result; and the twelve transfers between neighbours as one family.
-/
module

public import proofs.«01_k».proof.Proof.Prog
public import Idealize.ShloMosaic.Lib.Pipeline.Launch
public import Idealize.ShloMosaic.Lib.Pipeline.Kit
public import Idealize.ShloMosaic.Lib.Tactic
public import Idealize.ShloMosaic.Lib.Batch
public import Idealize.ShloMosaic.Lib.Ring.FamCut

@[expose] public section

set_option maxRecDepth 16384

noncomputable section

namespace Cert.KernelIdeal.Gen

open Idealize.ShloMosaic Idealize.ShloMosaic.TcCoe Idealize.SL.Sem

variable {F : FTy → Type} [FloatOps F]

/-! ## The ring -/

def right (c : Dev nD) : Dev nD := ⟨(c.val + 1) % 4, Nat.mod_lt _ (by decide)⟩
def left (c : Dev nD) : Dev nD := ⟨(c.val + 3) % 4, Nat.mod_lt _ (by decide)⟩

theorem right_left (c : Dev nD) : right (left c) = c := by revert c; decide
theorem left_right (c : Dev nD) : left (right c) = c := by revert c; decide

/-- The neighbour on the given side: `true` the right one. -/
def nb (c : Dev nD) (b : Bool) : Dev nD := if b then right c else left c

theorem nb_nb (c : Dev nD) (b : Bool) : nb (nb c b) (!b) = c := by cases b <;> simp [nb, right_left, left_right]
theorem nb_nb' (c : Dev nD) (b : Bool) : nb (nb c (!b)) b = c := by cases b <;> simp [nb, right_left, left_right]

def turn (b : Bool) : Dev nD ≃ Dev nD := ⟨fun c => nb c b, fun c => nb c (!b), fun c => nb_nb c b, fun c => nb_nb' c b⟩

theorem dev1_eq (c : Dev nD) : (⟨k0_dev1 c, k0_dev1_lt c⟩ : Dev nD) = left c := Fin.ext (k0_dev1_eq c)
theorem dev2_eq (c : Dev nD) : (⟨k0_dev2 c, k0_dev2_lt c⟩ : Dev nD) = right c := Fin.ext (k0_dev2_eq c)
theorem dev3_eq (c : Dev nD) : (⟨k0_dev3 c, k0_dev3_lt c⟩ : Dev nD) = right c := Fin.ext (k0_dev3_eq c)
theorem dev4_eq (c : Dev nD) : (⟨k0_dev4 c, k0_dev4_lt c⟩ : Dev nD) = right c := Fin.ext (k0_dev4_eq c)
theorem dev5_eq (c : Dev nD) : (⟨k0_dev5 c, k0_dev5_lt c⟩ : Dev nD) = right c := Fin.ext (k0_dev5_eq c)
theorem dev6_eq (c : Dev nD) : (⟨k0_dev6 c, k0_dev6_lt c⟩ : Dev nD) = right c := Fin.ext (k0_dev6_eq c)
theorem dev7_eq (c : Dev nD) : (⟨k0_dev7 c, k0_dev7_lt c⟩ : Dev nD) = right c := Fin.ext (k0_dev7_eq c)
theorem dev8_eq (c : Dev nD) : (⟨k0_dev8 c, k0_dev8_lt c⟩ : Dev nD) = right c := Fin.ext (k0_dev8_eq c)
theorem dev9_eq (c : Dev nD) : (⟨k0_dev9 c, k0_dev9_lt c⟩ : Dev nD) = right c := Fin.ext (k0_dev9_eq c)
theorem dev10_eq (c : Dev nD) : (⟨k0_dev10 c, k0_dev10_lt c⟩ : Dev nD) = left c := Fin.ext (k0_dev10_eq c)
theorem dev11_eq (c : Dev nD) : (⟨k0_dev11 c, k0_dev11_lt c⟩ : Dev nD) = right c := Fin.ext (k0_dev11_eq c)
theorem dev12_eq (c : Dev nD) : (⟨k0_dev12 c, k0_dev12_lt c⟩ : Dev nD) = left c := Fin.ext (k0_dev12_eq c)
theorem dev13_eq (c : Dev nD) : (⟨k0_dev13 c, k0_dev13_lt c⟩ : Dev nD) = right c := Fin.ext (k0_dev13_eq c)
theorem dev14_eq (c : Dev nD) : (⟨k0_dev14 c, k0_dev14_lt c⟩ : Dev nD) = left c := Fin.ext (k0_dev14_eq c)

/-! ## Values -/

variable (m : (ℓ : Loc nD τ sig) → Buf (Elt F) ℓ)

def xstg (c : Dev nD) : (cc0_stg0_0 : Ref sig .tc).ty.Contents (Elt F) :=
  (win0_0.blk (0 : Fin 1)).view.read (Elt F) (m ((c : Thread nD τ).loc main_arg0))
def wqstg (c : Dev nD) : (cc0_stg1_0 : Ref sig .tc).ty.Contents (Elt F) :=
  (win0_1.blk (0 : Fin 1)).view.read (Elt F) (m ((c : Thread nD τ).loc main_arg1))
def wostg (c : Dev nD) : (cc0_stg2_0 : Ref sig .tc).ty.Contents (Elt F) :=
  (win0_2.blk (0 : Fin 1)).view.read (Elt F) (m ((c : Thread nD τ).loc main_arg2))

/-- The rounded weights of device `c`, and its queries. -/
def wqbf (c : Dev nD) : Vec F S1024x1024 .bf16 := k0_pay1 (wqstg m c)
def wobf (c : Dev nD) : Vec F S1024x1024 .bf16 := k0_pay2 (wostg m c)
def queries (c : Dev nD) : Vec F S1024x1024 .bf16 := k0_pay4 (k0_pay3 (xstg m c) (wqbf m c))

/-- Head `h`'s queries of half `p` of block `(c + o) % 4`, and its keys and values. -/
def qtile (c : Dev nD) (o : Fin 4) (p : Fin 2) (h : Fin 8) : Vec F S128x128 .bf16 :=
  qbM.view.readAt (Elt F) (Rect.unit (s := S1024x1024) (qOff c o p h) S128x128.size (qOff_inb c o p h)).toLoadRect (queries m c)
def kval (c : Dev nD) (o : Fin 4) (h : Fin 8) : Vec F S1024x128 .f32 := (kW c o h).view.read (Elt F) (m ((c : Thread nD τ).loc main_arg3))
def vval (c : Dev nD) (o : Fin 4) (h : Fin 8) : Vec F S1024x128 .f32 := (vW c o h).view.read (Elt F) (m ((c : Thread nD τ).loc main_arg4))

/-- Attention of queries `q` over keys `k` and values `v`. -/
def attend (q : Vec F S128x128 .bf16) (k v : Vec F S1024x128 .f32) : FVec F S128x128 .bf16 :=
  let e : FVec F S128x1024 .f32 := exp (matmul dot_S128x128_S1024x128_S128x1024_1_1_0_0_n_n none q (truncf .bf16 k bitsLt_bf16_f32) (constant S128x1024 .f32 0x00000000#32))
  let n : FVec F S128 .f32 := multiReduction .add [1] S128 e 0x00000000#32 reduces_S128x1024_S128 (.inl rfl) rfl
  let a : FVec F S128x128 .f32 := matmul dot_S128x1024_S1024x128_S128x128_1_0_0_1_n_n none (truncf .bf16 e bitsLt_bf16_f32) (truncf .bf16 v bitsLt_bf16_f32) (constant S128x128 .f32 0x00000000#32)
  shapeCast S128x128 (truncf .bf16 (divf a (broadcastTo S128x128 (shapeCast S128x1 n shapeCasts_S128_S128x1) broadcasts_S128x1_S128x128)) bitsLt_bf16_f32) shapeCasts_S128x128_S128x128

theorem pay8_eq (q : Vec F S128x128 .bf16) (k v : Vec F S1x1x1024x128 .f32) :
    k0_pay8 q k v = attend q (shapeCast S1024x128 k shapeCasts_S1x1x1024x128_S1024x128) (shapeCast S1024x128 v shapeCasts_S1x1x1024x128_S1024x128) := rfl

def headOut (c : Dev nD) (o : Fin 4) (p : Fin 2) (h : Fin 8) : Vec F S128x128 .bf16 := attend (qtile m c o p h) (kval m c o h) (vval m c o h)

/-- The attention of a half: its heads side by side. -/
def attnHalf (c : Dev nD) (o : Fin 4) (p : Fin 2) : Vec F S128x1024 .bf16 := fun i =>
  headOut m c o p ⟨(i 1).val / 128, Nat.div_lt_of_lt_mul (i 1).isLt⟩ (fun | 0 => i 0 | 1 => ⟨(i 1).val % 128, Nat.mod_lt _ (by decide)⟩)

/-- Device `c`'s part of half `p` of block `(c + o) % 4`. -/
def part (c : Dev nD) (o : Fin 4) (p : Fin 2) : FVec F S128x1024 .f32 := project (attnHalf m c o p) (wobf m c)

/-- What arrived added to one's own part, rounded. -/
def addHalf (r : Vec F S128x1024 .bf16) (p : FVec F S128x1024 .f32) : FVec F S128x1024 .bf16 :=
  truncf .bf16 (addf (extf .f32 r bitsLt_bf16_f32) p) bitsLt_bf16_f32

theorem addPart_eq (r : Vec F S1x128x1024 .bf16) (p : FVec F S128x1024 .f32) :
    addPart r p = addHalf (shapeCast S128x1024 r shapeCasts_S1x128x1024_S128x1024) p := rfl

/-- The block a device adds its part to at each step, from its own. -/
def stepOf : ℕ → Fin 4
  | 0 => 3
  | 1 => 2
  | _ => 1

/-- The sum device `c` holds after `t` additions: of block `(c + 3 * t) % 4`, over the devices `c - t, …, c`. -/
def sumAt : ℕ → Dev nD → Fin 2 → Vec F S128x1024 .bf16
  | 0, c, p => truncf .bf16 (part m c 0 p) bitsLt_bf16_f32
  | t + 1, c, p => addHalf (sumAt t (left c) p) (part m c (stepOf t) p)

/-- The device whose finished sum is row block `b` of the result. -/
def outAt : Vec F S1024x1024 .bf16 := fun i =>
  sumAt m 3 (left ⟨(i 0).val / 256, Nat.div_lt_of_lt_mul (i 0).isLt⟩) ⟨(i 0).val % 256 / 128, Nat.div_lt_of_lt_mul (Nat.mod_lt _ (by decide))⟩
    (fun | 0 => ⟨(i 0).val % 128, Nat.mod_lt _ (by decide)⟩ | 1 => i 1)

/-! ## The transfers -/

/-- The transfers of a device: six sums to the right, two halves of the finished block each way, and one forward each way. -/
inductive Tr
  | rs (t : Fin 3) (p : Fin 2)
  | agr (p : Fin 2)
  | agl (p : Fin 2)
  | fwr
  | fwl
  deriving DecidableEq

/-- The transfers by family. -/
def trEquiv : (Fin 3 × Fin 2) ⊕ (Fin 2 ⊕ (Fin 2 ⊕ Bool)) ≃ Tr where
  toFun
    | .inl (t, p) => .rs t p
    | .inr (.inl p) => .agr p
    | .inr (.inr (.inl p)) => .agl p
    | .inr (.inr (.inr true)) => .fwr
    | .inr (.inr (.inr false)) => .fwl
  invFun
    | .rs t p => .inl (t, p)
    | .agr p => .inr (.inl p)
    | .agl p => .inr (.inr (.inl p))
    | .fwr => .inr (.inr (.inr true))
    | .fwl => .inr (.inr (.inr false))
  left_inv x := by rcases x with ⟨_, _⟩ | _ | _ | _ | _ <;> rfl
  right_inv x := by cases x <;> rfl

instance : Fintype Tr := Fintype.ofEquiv _ trEquiv

namespace Tr

/-- When it starts, among the transfers. -/
def ix : Tr → ℕ
  | rs t p => 2 * t.val + p.val
  | agr p => 6 + 2 * p.val
  | agl p => 7 + 2 * p.val
  | fwr => 10
  | fwl => 11

/-- Whether it goes to the right. -/
def goes : Tr → Bool
  | agl _ => false
  | fwl => false
  | _ => true

def src : Tr → Memref sig .tc .vmem S128x1024 .bf16
  | rs t p => rsSW t p
  | agr p => agSW p
  | agl p => agSW p
  | fwr => agRW 0 0
  | fwl => agLW 1
def dst : Tr → Memref sig .tc .vmem S128x1024 .bf16
  | rs t p => rsRW t p
  | agr p => agRW 0 p
  | agl p => agLW p
  | fwr => agRW 1 0
  | fwl => agRW 1 1
def sS : Tr → DmaSem sig
  | rs t p => rsSS t p
  | agr p => agSS p
  | agl p => agLSS p
  | fwr => cc0_scratch18.sem
  | fwl => cc0_scratch20.sem
def rS : Tr → DmaSem sig
  | rs t p => rsRS t p
  | agr p => agRS p
  | agl p => agLRS p
  | fwr => cc0_scratch19.sem
  | fwl => cc0_scratch21.sem

theorem src_words (i : Tr) : i.src.view.WordExact := by
  cases i
  · exact rsSW_words _ _
  · exact agSW_words _
  · exact agSW_words _
  · exact agRW_words _ _
  · exact agLW_words _
theorem dst_words (i : Tr) : i.dst.view.WordExact := by
  cases i
  · exact rsRW_words _ _
  · exact agRW_words _ _
  · exact agLW_words _
  · exact agRW_words _ _
  · exact agRW_words _ _

theorem ix_inj : ∀ i j : Tr, i.ix = j.ix → i = j := by decide
theorem sS_inj : ∀ i j : Tr, i.sS = j.sS → i = j := by decide +kernel
theorem rS_inj : ∀ i j : Tr, i.rS = j.rS → i = j := by decide +kernel
theorem sS_ne_rS : ∀ i j : Tr, i.sS ≠ j.rS := by decide +kernel

/-- Where device `c`'s transfer goes, and where the one it receives comes from. -/
def into (c : Dev nD) (i : Tr) : Dev nD := nb c i.goes
def origin (c : Dev nD) (i : Tr) : Dev nD := nb c (!i.goes)

theorem origin_into (c : Dev nD) (i : Tr) : i.origin (i.into c) = c := nb_nb c _
theorem into_origin (c : Dev nD) (i : Tr) : i.into (i.origin c) = c := nb_nb' c _

end Tr

/-- What device `c` sends. -/
def sent (c : Dev nD) : Tr → Vec F S128x1024 .bf16
  | .rs t p => sumAt m t.val c p
  | .agr p => sumAt m 3 c p
  | .agl p => sumAt m 3 c p
  | .fwr => sumAt m 3 (left c) 0
  | .fwl => sumAt m 3 (right c) 1

end Cert.KernelIdeal.Gen
-- ==== Proof.Sched.lean ====
/-
  The exchange as a schedule: what each semaphore's units hand over, who owes them, and in which order they may be waited for.
-/
module

public import proofs.«01_k».proof.Proof.Model

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's rounds, the exchange's rounds, the fetches' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

omit [FloatOps F] in
theorem bigSep_cons {ι : Type} [DecidableEq ι] {s : Finset ι} {i : ι} (h : i ∉ s) (Φ : ι → sProp 𝕄) : bigSep (insert i s) Φ = iprop(Φ i ∗ bigSep s Φ) :=
  bigSep_insert h
omit [FloatOps F] in
theorem bigSep_take {ι : Type} [DecidableEq ι] {s : Finset ι} {i : ι} (h : i ∈ s) (Φ : ι → sProp 𝕄) : bigSep s Φ = iprop(Φ i ∗ bigSep (s.erase i) Φ) :=
  bigSep_erase h
omit [FloatOps F] in
theorem bigSep_both {ι : Type} [DecidableEq ι] (s : Finset ι) (Φ Ψ : ι → sProp 𝕄) : bigSep s (fun i => iprop(Φ i ∗ Ψ i)) = iprop(bigSep s Φ ∗ bigSep s Ψ) :=
  bigSep_sep s Φ Ψ

variable (m : (ℓ : Loc nD τ sig) → Buf (Elt F) ℓ)

/-! ## The cells -/

abbrev barCell (c : Dev nD) : GSem nD τ sig := ((c : Thread nD τ), .reg barS)
abbrev sendCell (c : Dev nD) (i : Tr) : GSem nD τ sig := ((c : Thread nD τ), .dma i.sS)
abbrev recvCell (c : Dev nD) (i : Tr) : GSem nD τ sig := ((c : Thread nD τ), .dma i.rS)

/-- The credit of one half block. -/
abbrev N : ℕ := (agSW 0).view.dmaCredit
theorem N_pos : 0 < N := View.dmaCredit_pos _ (by decide)

theorem src_credit (i : Tr) : i.src.view.dmaCredit = N := by cases i <;> rfl
theorem dst_credit (i : Tr) : i.dst.view.dmaCredit = N := by cases i <;> rfl

/-- The share of its source a transfer takes: a source sent twice, or read meanwhile, goes by halves. -/
def Tr.share : Tr → PosShare TreeShare
  | .rs _ _ => fullShare
  | .agr _ => fullShare.left
  | .agl _ => fullShare.right
  | .fwr => fullShare.left
  | .fwl => fullShare.left

/-- A window of some contents. -/
def some' (c : Dev nD) {s : Shape} {e : EltTy} (w : Memref sig .tc .vmem s e) (q : PosShare TreeShare) : sProp 𝕄 :=
  iprop(∃ f, w.view.loc (c : Thread nD τ) ↦[w.view.set]{q} f)

omit [FloatOps F] in
instance some_storable (c : Dev nD) {s : Shape} {e : EltTy} (w : Memref sig .tc .vmem s e) (q : PosShare TreeShare) : BI.Storable (upEmb : UEmb _ 𝕄) (some' (F := F) c w q) := by unfold some'; infer_instance

/-- The landing window of transfer `i` at device `c`. -/
def slot (c : Dev nD) (i : Tr) : sProp 𝕄 := some' c i.dst fullShare

omit [FloatOps F] in
instance slot_storable (c : Dev nD) (i : Tr) : BI.Storable (upEmb : UEmb _ 𝕄) (slot (F := F) c i) := by unfold slot; infer_instance

/-- What a neighbour's signal hands device `c`: the neighbour's landing windows. -/
def meetPay (c : Dev nD) (b : Bool) : sProp 𝕄 := bigSep (Finset.univ.filter fun i : Tr => i.goes = b) fun i => slot (i.into c) i
def recvPay (c : Dev nD) (i : Tr) : sProp 𝕄 := owns (c : Thread nD τ) i.dst fullShare (sent m (i.origin c) i)
def sendPay (c : Dev nD) (i : Tr) : sProp 𝕄 := some' c i.src i.share

/-! ## The schedule -/

abbrev IsRecv (g : GSem nD τ sig) : Prop := ∃ i : Tr, g.2 = .dma i.rS
abbrev IsSend (g : GSem nD τ sig) : Prop := ∃ i : Tr, g.2 = .dma i.sS

def sched : Rounds.Schedule (GSem nD τ sig) Bool 𝕄 where
  duties g r :=
    if r = 0 ∧ g.1.2 = .tc then (if g.2 = .reg barS then {true, false} else if IsRecv g ∨ IsSend g then {true} else ∅) else ∅
  unitless _ := False
  amount g _ _ := if g.2 = .reg barS then 1 else N
  payload g _ d :=
    if g.2 = .reg barS then meetPay g.1.1 d
    else if h : IsRecv g then recvPay m g.1.1 h.choose
    else if h : IsSend g then sendPay g.1.1 h.choose
    else iprop(emp)
  amount_pos g _ _ _ := by
    by_cases h : g.2 = .reg barS
    · rw [if_pos h]; exact Nat.one_pos
    · rw [if_neg h]; exact N_pos

instance sched_payload_storable (g : GSem nD τ sig) (r : ℕ) (d : Bool) : BI.Storable (upEmb : UEmb _ 𝕄) ((sched (F := F) m).payload g r d) := by
  show BI.Storable upEmb (if g.2 = .reg barS then meetPay g.1.1 d
    else if h : IsRecv g then recvPay m g.1.1 h.choose
    else if h : IsSend g then sendPay g.1.1 h.choose
    else iprop(emp))
  unfold meetPay recvPay sendPay
  (repeat' split) <;> infer_instance

theorem dma_ne_bar (q : DmaSem sig) : (SemLoc.dma q : SemLoc sig) ≠ .reg barS := fun h => by cases h
theorem dma_inj {a b : DmaSem sig} (h : (SemLoc.dma a : SemLoc sig) = .dma b) : a = b := by cases h; rfl

theorem isRecv (c : Dev nD) (i : Tr) : IsRecv (recvCell c i) := ⟨i, rfl⟩
theorem isSend (c : Dev nD) (i : Tr) : IsSend (sendCell c i) := ⟨i, rfl⟩
theorem send_not_recv (c : Dev nD) (i : Tr) : ¬ IsRecv (sendCell c i) := fun ⟨j, h⟩ => Tr.sS_ne_rS i j (dma_inj h)
theorem recv_choose (c : Dev nD) (i : Tr) (h : IsRecv (recvCell c i)) : h.choose = i := (Tr.rS_inj _ _ (dma_inj h.choose_spec)).symm
theorem send_choose (c : Dev nD) (i : Tr) (h : IsSend (sendCell c i)) : h.choose = i := (Tr.sS_inj _ _ (dma_inj h.choose_spec)).symm

section Facts
variable (c : Dev nD) (i : Tr)

theorem duties_bar : (sched (F := F) m).duties (barCell c) 0 = {true, false} := by
  dsimp only [sched]; rw [if_pos ⟨rfl, rfl⟩, if_pos rfl]
theorem duties_recv : (sched (F := F) m).duties (recvCell c i) 0 = {true} := by
  dsimp only [sched]; rw [if_pos ⟨rfl, rfl⟩, if_neg (dma_ne_bar _), if_pos (.inl (isRecv c i))]
theorem duties_send : (sched (F := F) m).duties (sendCell c i) 0 = {true} := by
  dsimp only [sched]; rw [if_pos ⟨rfl, rfl⟩, if_neg (dma_ne_bar _), if_pos (.inr (isSend c i))]
theorem duties_later (g : GSem nD τ sig) : ∀ r, 1 ≤ r → (sched (F := F) m).duties g r = ∅ :=
  fun r hr => by dsimp only [sched]; exact if_neg fun h => by omega

theorem amount_bar (b : Bool) : (sched (F := F) m).amount (barCell c) 0 b = 1 := by dsimp only [sched]; exact if_pos rfl
theorem amount_recv (b : Bool) : (sched (F := F) m).amount (recvCell c i) 0 b = N := by dsimp only [sched]; exact if_neg (dma_ne_bar _)
theorem amount_send (b : Bool) : (sched (F := F) m).amount (sendCell c i) 0 b = N := by dsimp only [sched]; exact if_neg (dma_ne_bar _)

theorem expect_bar : (sched (F := F) m).expect (barCell c) 0 = 2 := by
  unfold Schedule.expect Schedule.amountOf
  rw [duties_bar, Finset.sum_insert (by decide), Finset.sum_singleton, amount_bar, amount_bar]
theorem expect_recv : (sched (F := F) m).expect (recvCell c i) 0 = N := by
  unfold Schedule.expect Schedule.amountOf; rw [duties_recv, Finset.sum_singleton, amount_recv]
theorem expect_send : (sched (F := F) m).expect (sendCell c i) 0 = N := by
  unfold Schedule.expect Schedule.amountOf; rw [duties_send, Finset.sum_singleton, amount_send]

theorem payload_bar (b : Bool) : (sched (F := F) m).payload (barCell c) 0 b = meetPay c b := by dsimp only [sched]; exact if_pos rfl
theorem payload_recv (b : Bool) : (sched (F := F) m).payload (recvCell c i) 0 b = recvPay m c i := by
  dsimp only [sched]; rw [if_neg (dma_ne_bar _), dif_pos (isRecv c i), recv_choose c i]
theorem payload_send (b : Bool) : (sched (F := F) m).payload (sendCell c i) 0 b = sendPay c i := by
  dsimp only [sched]; rw [if_neg (dma_ne_bar _), dif_neg (send_not_recv c i), dif_pos (isSend c i), send_choose c i]

theorem rest_recv : bigSep ((sched (F := F) m).duties (recvCell c i) 0 \ ∅) (fun d => (sched (F := F) m).payload (recvCell c i) 0 d) = recvPay m c i := by
  rw [Finset.sdiff_empty, duties_recv, bigSep_singleton, payload_recv]
theorem rest_send : bigSep ((sched (F := F) m).duties (sendCell c i) 0 \ ∅) (fun d => (sched (F := F) m).payload (sendCell c i) 0 d) = sendPay c i := by
  rw [Finset.sdiff_empty, duties_send, bigSep_singleton, payload_send]
/-- Both neighbours' signals together: every landing window of the transfers device `c` makes. -/
theorem rest_bar : bigSep ((sched (F := F) m).duties (barCell c) 0 \ ∅) (fun d => (sched (F := F) m).payload (barCell c) 0 d)
    ⊢ bigSep Finset.univ fun i : Tr => slot (F := F) (i.into c) i := by
  rw [Finset.sdiff_empty, duties_bar, bigSep_insert (by decide), bigSep_singleton, payload_bar, payload_bar]
  unfold meetPay
  rw [← bigSep_union (by rw [Finset.disjoint_filter]; intro i _ h h'; rw [h] at h'; cases h')]
  refine Entails.of_eq (congrArg (fun S => bigSep S _) ?_)
  ext i; cases h : i.goes <;> simp [h]
/-- The landing windows of device `c` itself are what its two signals hand over. -/
theorem slots_split : (bigSep Finset.univ fun i : Tr => slot (F := F) c i) ⊢ iprop(meetPay (left c) true ∗ meetPay (right c) false) := by
  have h : (Finset.univ : Finset Tr) = (Finset.univ.filter fun i : Tr => i.goes = true) ∪ (Finset.univ.filter fun i : Tr => i.goes = false) := by
    ext i; cases h : i.goes <;> simp [h]
  rw [h, bigSep_union (by rw [Finset.disjoint_filter]; intro i _ h h'; rw [h] at h'; cases h')]
  unfold meetPay
  refine BIClass.sep_mono (Entails.of_eq (bigSep_congr fun i hi => ?_)) (Entails.of_eq (bigSep_congr fun i hi => ?_))
  · have hg := (Finset.mem_filter.mp hi).2
    unfold Tr.into nb; rw [hg, if_pos rfl, right_left]
  · have hg := (Finset.mem_filter.mp hi).2
    unfold Tr.into nb; rw [hg, if_neg (by decide), left_right]

end Facts

/-! ## What each core owes; the levels -/

/-- The arrivals device `c` still owes when the transfers before the `n`th have started. -/
def dues (c : Dev nD) (n : ℕ) : CellTallies nD τ sig Unit :=
  ∑ i ∈ Finset.univ.filter (fun i : Tr => n ≤ i.ix), tallyAt (recvCell (i.into c) i) () N

theorem dues_step (c : Dev nD) (i : Tr) : dues c i.ix = dues c (i.ix + 1) + tallyAt (recvCell (i.into c) i) () N := by
  unfold dues
  have h : (Finset.univ.filter fun j : Tr => i.ix ≤ j.ix) = insert i (Finset.univ.filter fun j : Tr => i.ix + 1 ≤ j.ix) := by
    ext j
    simp only [Finset.mem_filter, Finset.mem_univ, true_and, Finset.mem_insert]
    constructor
    · intro hj
      rcases Nat.eq_or_lt_of_le hj with h | h
      · exact .inl (Tr.ix_inj _ _ h.symm)
      · exact .inr h
    · rintro (rfl | hj)
      · exact le_rfl
      · omega
  rw [h, Finset.sum_insert (by simp), add_comm]

theorem dues_end (c : Dev nD) : dues c 12 = 0 := by
  unfold dues
  rw [show (Finset.univ.filter fun j : Tr => 12 ≤ j.ix) = ∅ by decide, Finset.sum_empty]

/-- At launch device `c` owes its transfers' arrivals and a unit to each neighbour's barrier. -/
def O₀ (c : Dev nD) : CellTallies nD τ sig Unit := dues c 0 + tallyAt (barCell (right c)) () 1 + tallyAt (barCell (left c)) () 1

def L (g : GSem nD τ sig) : Finset Unit := if g.1.2 = .tc then {()} else ∅
def lv (g : GSem nD τ sig) (_ : Unit) : ℕ := if g.2 = .reg barS then 1 else if h : IsRecv g then 2 + h.choose.ix else 0
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (i : Tr) (u : Unit) : lv (recvCell c i) u = 2 + i.ix := by
  unfold lv; rw [if_neg (dma_ne_bar _), dif_pos (isRecv c i), recv_choose]
theorem lv_low (c : Dev nD) (q : DmaSem sig) (hq : ∀ i : Tr, q ≠ i.rS) (u : Unit) : lv ((c : Thread nD τ), .dma q) u = 0 := by
  unfold lv; rw [if_neg (dma_ne_bar _), dif_neg fun ⟨i, h⟩ => hq i (dma_inj h)]

/-- Everything owed has a level above `b`. -/
def Above (b : ℕ) (O : CellTallies nD τ sig Unit) : Prop := ∀ (g : GSem nD τ sig) (u : Unit), 0 < O g u → u ∈ L g ∧ b < lv g u

theorem above_zero (b : ℕ) : Above b 0 := fun g u h => absurd h (by simp)

theorem above_tally (b k : ℕ) (g : GSem nD τ sig) (hL : () ∈ L g) (hb : b < lv g ()) : Above b (tallyAt g () k) := fun g' u h => by
  rw [tallyAt_apply] at h
  by_cases hg : g' = g ∧ u = ()
  · rw [hg.1]; exact ⟨hL, hb⟩
  · rw [if_neg hg] at h; exact absurd h (Nat.lt_irrefl 0)

theorem above_add {b : ℕ} {O O' : CellTallies nD τ sig Unit} (h : Above b O) (h' : Above b O') : Above b (O + O') := fun g u hg => by
  rw [Pi.add_apply, Finsupp.add_apply] at hg
  rcases Nat.eq_zero_or_pos (O g u) with h0 | h0
  · exact h' g u (by omega)
  · exact h g u h0

theorem above_dues (c : Dev nD) {b n : ℕ} (h : b < 2 + n) : Above b (dues c n) := by
  unfold dues
  refine Finset.sum_induction _ (Above b) (fun _ _ => above_add) (above_zero b) fun i hi => ?_
  have := (Finset.mem_filter.mp hi).2
  refine above_tally b _ _ (by rw [L_tc]; exact Finset.mem_singleton_self _) ?_
  rw [lv_recv]; omega

theorem above_O₀ (c : Dev nD) : Above 0 (O₀ c) := by
  refine above_add (above_add (above_dues c (by decide)) ?_) ?_ <;>
    exact above_tally 0 _ _ (by rw [L_tc]; exact Finset.mem_singleton_self _) (by rw [lv_bar]; decide)

omit [FloatOps F] in
theorem mayWait (c : Dev nD) (sm : SemLoc sig) (b : ℕ) (O : CellTallies nD τ sig Unit) (hb : lv ((c : Thread nD τ), sm) () ≤ b) (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => (hO g u hg).1) (fun p hp => by rw [Finset.mem_singleton.mp hp]; exact hb) (fun g u hg => (hO g u hg).2)

/-- What device `c` owes, whatever it has waited for. -/
def owing (c : Dev nD) (O : CellTallies nD τ sig Unit) : sProp 𝕄 := iprop(∃ W, owes (c : Thread nD τ) O W)

end Cert.KernelIdeal.Gen
-- ==== Proof.Steps.lean ====
/-
  The exchange's steps, each once: a transfer to a neighbour, the waits for its landing and for its source, and the signals and the
  wait that open the exchange.
-/
module

public import proofs.«01_k».proof.Proof.Sched

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A device's program, run to `Q`. -/
abbrev Wp {α : Type} (c : Dev nD) (p : P F α) (Q : α → sProp 𝕄) : sProp 𝕄 :=
  wp frame (wpE (defs₀ (F := F)) 𝒱₀ (c : Thread nD τ) none) Set.univ p Q

theorem wp_done {α : Type} (c : Dev nD) (a : α) (Q : α → sProp 𝕄) : Q a ⊢ Wp c (Prog.ret a) Q := by
  unfold Wp; rw [wp_ret]; iintro H; imodintro; iexact H

/-! ## The cells' invariants -/

/-- A device's cells: its barrier, and each transfer's source (`false`) and landing (`true`). -/
abbrev Slot : Type := Option (Tr × Bool)
def smOf : Slot → SemLoc sig
  | none => .reg barS
  | some (i, false) => .dma i.sS
  | some (i, true) => .dma i.rS
abbrev kcell (ck : Dev nD × Slot) : GSem nD τ sig := ((ck.1 : Thread nD τ), smOf ck.2)

def record (K : Dev nD × Slot → ℕ) (ck : Dev nD × Slot) : sProp 𝕄 :=
  iprop(cellInv ER (sched m) (K ck) (kcell ck) ∗ reached ER (kcell ck) 0)
instance record_persistent (K : Dev nD × Slot → ℕ) (ck : Dev nD × Slot) : BI.Persistent (record m K ck) := by unfold record; infer_instance

/-- Every cell's invariant, and the levels. -/
def records (K : Dev nD × Slot → ℕ) : sProp 𝕄 := iprop(bigSep Finset.univ (record m K) ∗ levAts L lv)
instance records_persistent (K : Dev nD × Slot → ℕ) : BI.Persistent (records m K) := by unfold records; infer_instance

theorem records_at (K : Dev nD × Slot → ℕ) (ck : Dev nD × Slot) : records m K ⊢ record m K ck := by
  unfold records
  rw [bigSep_take (Finset.mem_univ ck)]
  iintro ⟨⟨H, -⟩, -⟩; iexact H

theorem records_lev (K : Dev nD × Slot → ℕ) : records m K ⊢ (levAts L lv : sProp 𝕄) := by
  unfold records
  iintro ⟨-, H⟩; iexact H

variable (K : Dev nD × Slot → ℕ)

/-! ## One transfer -/

/-- What device `c` needs to start transfer `i`: the landing window and the two tokens; and its own position at the source's cell. -/
def ready (c : Dev nD) (i : Tr) : sProp 𝕄 :=
  iprop(slot (i.into c) i ∗ dutyTok ER (sendCell c i) 0 true ∗ dutyTok ER (recvCell (i.into c) i) 0 true ∗ atPos ER (sendCell c i) 0 ∅ 0)
/-- What remains when it has started. -/
def pending (c : Dev nD) (i : Tr) : sProp 𝕄 := iprop(atPos ER (sendCell c i) 0 ∅ 0 ∗ cred (tallyAt (sendCell c i) () N))
/-- What device `c` needs to wait for the transfer `i` it receives. -/
def expecting (c : Dev nD) (i : Tr) : sProp 𝕄 := iprop(atPos ER (recvCell c i) 0 ∅ 0 ∗ cred (tallyAt (recvCell c i) () N))

/-- Device `c` when the transfers before the `n`th have started. -/
def going (c : Dev nD) (n : ℕ) : sProp 𝕄 :=
  iprop(bigSep (Finset.univ.filter fun i : Tr => n ≤ i.ix) (ready c) ∗ bigSep (Finset.univ.filter fun i : Tr => i.ix < n) (pending c) ∗ owing c (dues c n))

theorem filter_le_ix (i : Tr) : (Finset.univ.filter fun j : Tr => i.ix ≤ j.ix) = insert i (Finset.univ.filter fun j : Tr => i.ix + 1 ≤ j.ix) := by
  ext j
  simp only [Finset.mem_filter, Finset.mem_univ, true_and, Finset.mem_insert]
  constructor
  · intro hj
    rcases Nat.eq_or_lt_of_le hj with h | h
    · exact .inl (Tr.ix_inj _ _ h.symm)
    · exact .inr h
  · rintro (rfl | hj)
    · exact le_rfl
    · omega

theorem filter_ix_lt (i : Tr) : (Finset.univ.filter fun j : Tr => j.ix < i.ix + 1) = insert i (Finset.univ.filter fun j : Tr => j.ix < i.ix) := by
  ext j
  simp only [Finset.mem_filter, Finset.mem_univ, true_and, Finset.mem_insert]
  constructor
  · intro hj
    rcases Nat.eq_or_lt_of_le (Nat.le_of_lt_succ hj) with h | h
    · exact .inl (Tr.ix_inj _ _ h)
    · exact .inr h
  · rintro (rfl | hj)
    · exact Nat.lt_succ_self _
    · omega

/-- Transfer `i` starts: its source, holding what device `c` sends, is on its way to the neighbour's landing window. -/
theorem wp_send (c e : Dev nD) (i : Tr) (he : e = i.into c) {α : Type} {Q : PUnit → sProp 𝕄} {n : ℕ} (hn : i.ix = n) :
    iprop(records m K ∗ going c n ∗ owns (c : Thread nD τ) i.src i.share (sent m c i))
      ⊢ iprop((going c (n + 1) -∗ Q ⟨⟩) -∗ Wp c (sendM i.src i.dst i.src_words i.dst_words e i.sS i.rS) Q) := by
  subst he hn
  unfold going sendM Prog.lift
  rw [filter_le_ix i, bigSep_cons (by simp), filter_ix_lt i, bigSep_cons (by simp)]
  unfold ready owns owing slot some'
  iintro ⟨#Hr, ⟨⟨⟨⟨%fd, Hd⟩, HtS, HtR, Hat⟩, Hrest⟩, Hpend, ⟨%W, HO⟩⟩, ⟨%fs, %hfs, Hs⟩⟩ Hk
  ihave HS := (records_at m K (c, some (i, false))) $$ Hr
  ihave HR := (records_at m K (i.into c, some (i, true))) $$ Hr
  unfold record
  icases HS with ⟨HIs, Hrs⟩
  icases HR with ⟨HIr, Hrr⟩
  iapply (Rounds.wp_send_pointsTo 𝒱₀ ER (sched m) (c : Thread nD τ) none (c' := (i.into c : Thread nD τ)) (src := i.src) (dst := i.dst) (sS := .dma i.sS) (sem := .dma i.rS)
      (κ₁ := K (c, some (i, false))) (κ₂ := K (i.into c, some (i, true))) (r₁ := 0) (r₂ := 0) (d₁ := true) (d₂ := true) (q := i.share) (fs := fs) (fd := fd)
      (by rw [duties_send]; exact Finset.mem_singleton_self _) (by rw [duties_recv]; exact Finset.mem_singleton_self _)
      () () N (dst_credit i) (amount_send m c i true) (amount_recv m (i.into c) i true) (dues c (i.ix + 1)) (dues_step c i) (W := W)
      (by rw [payload_send]; unfold sendPay some'; iintro H; iexists fs; iexact H)
      (by
        rw [payload_recv]; unfold recvPay owns; rw [Tr.origin_into, ← hfs]
        iintro H; iexists (i.dst.view.write (Elt F) fd (i.src.view.read (Elt F) fs) Finset.univ); isplitr; · (ipureintro; exact View.read_write_univ _ _)
        iexact H)) $$ [HIs HIr Hs Hd HO HtS Hrs HtR Hrr]
  · isplitl [HIs]; · iexact HIs
    isplitl [HIr]; · iexact HIr
    isplitl [Hs]; · iexact Hs
    isplitl [Hd]; · iexact Hd
    isplitl [HO]; · iexact HO
    isplitl [HtS]; · iexact HtS
    isplitl [Hrs]; · iexact Hrs
    isplitl [HtR]; · iexact HtR
    iexact Hrr
  iintro ⟨Hc, HO⟩
  rw [wp_ret]; imodintro
  iapply Hk
  isplitl [Hrest]; · iexact Hrest
  isplitl [Hat Hc Hpend]
  · isplitl [Hat Hc]
    · unfold pending; isplitl [Hat] <;> iassumption
    iexact Hpend
  iexists W; iexact HO

/-- The wait for the landing of transfer `i`, transfers before the `n`th started. -/
theorem wp_recv (c : Dev nD) (i : Tr) (n : ℕ) (hn : i.ix < n) {src dst : Memref sig .tc .vmem S128x1024 .bf16} {hs : src.view.WordExact} {hd : dst.view.WordExact}
    (hN : dst.view.dmaCredit = N) {Q : PUnit → sProp 𝕄} :
    iprop(records m K ∗ going c n ∗ expecting c i)
      ⊢ iprop((iprop(going c n ∗ owns (c : Thread nD τ) i.dst fullShare (sent m (i.origin c) i) ∗ semVal (recvCell c i) 0) -∗ Q ⟨⟩)
          -∗ Wp c (waitM i.rS src dst hs hd) Q) := by
  unfold going expecting owing waitM Prog.lift
  iintro ⟨#Hr, ⟨Hready, Hpend, ⟨%W, HO⟩⟩, ⟨Hat, Hc⟩⟩ Hk
  ihave HR := (records_at m K (c, some (i, true))) $$ Hr
  unfold record
  icases HR with ⟨#HI, -⟩
  ihave #Hlev := (records_lev m K) $$ Hr
  iapply (Rounds.wp_wait_rest_token 𝒱₀ ER (sched m) (c : Thread nD τ) none (κ := K (c, some (i, true)))
      (wpE_waitDma2_eq 𝒱₀ (c : Thread nD τ) none Set.univ) (Set.mem_univ _) () (O := dues c n) (W := W) (R := 0) (m := 0) (T := ∅)
      (by rw [Nat.zero_add]; exact hN.trans (expect_recv m c i).symm)) $$ [Hc HO Hat]
  · isplitr; · iexact HI
    isplitl [Hc]; · rw [hN]; iexact Hc
    isplitl [HO]; · iexact HO
    isplitr
    · iapply (mayWait c (.dma i.rS) (2 + i.ix) (dues c n) (Nat.le_of_eq (lv_recv c i ())) (above_dues c (by omega))); iexact Hlev
    iexact Hat
  iintro ⟨HO, Hat, -, Hpay⟩
  ihave Hp := (Entails.of_eq (rest_recv m c i)) $$ Hpay
  imod (Rounds.cell_close ER (sched m) (Set.mem_univ (K (c, some (i, true)))) (fun h => h) (R := 0 + 1) (duties_later m (recvCell c i))) $$ [Hat] with Hz
  · isplitr; · iexact HI
    iexact Hat
  rw [wp_ret]; imodintro
  iapply Hk
  isplitl [Hready Hpend HO]
  · isplitl [Hready]; · iexact Hready
    isplitl [Hpend]; · iexact Hpend
    iexists _; iexact HO
  isplitl [Hp]; · unfold recvPay; iexact Hp
  iexact Hz

/-- The wait for the source of transfer `i`, all transfers started and landed. -/
theorem wp_sent (c : Dev nD) (i : Tr) {src dst : Memref sig .tc .vmem S128x1024 .bf16} {hs : src.view.WordExact} {hd : dst.view.WordExact}
    (hN : dst.view.dmaCredit = N) {Q : PUnit → sProp 𝕄} :
    iprop(records m K ∗ pending c i ∗ owing c 0)
      ⊢ iprop((iprop(some' c i.src i.share ∗ semVal (sendCell c i) 0 ∗ owing c 0) -∗ Q ⟨⟩) -∗ Wp c (waitM i.sS src dst hs hd) Q) := by
  unfold pending owing waitM Prog.lift
  iintro ⟨#Hr, ⟨Hat, Hc⟩, ⟨%W, HO⟩⟩ Hk
  ihave HR := (records_at m K (c, some (i, false))) $$ Hr
  unfold record
  icases HR with ⟨#HI, -⟩
  iapply (Rounds.wp_wait_rest_token 𝒱₀ ER (sched m) (c : Thread nD τ) none (κ := K (c, some (i, false)))
      (wpE_waitDma2_eq 𝒱₀ (c : Thread nD τ) none Set.univ) (Set.mem_univ _) () (O := 0) (W := W) (R := 0) (m := 0) (T := ∅)
      (by rw [Nat.zero_add]; exact hN.trans (expect_send m c i).symm)) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_send m c i)) $$ Hpay
  imod (Rounds.cell_close ER (sched m) (Set.mem_univ (K (c, some (i, false)))) (fun h => h) (R := 0 + 1) (duties_later m (sendCell c i))) $$ [Hat] with Hz
  · isplitr; · iexact HI
    iexact Hat
  rw [wp_ret]; imodintro
  iapply Hk
  isplitl [Hp]; · unfold sendPay; iexact Hp
  isplitl [Hz]; · iexact Hz
  iexists _; iexact HO

/-! ## The meeting -/

/-- What device `c` brings to the meeting: its landing windows, the tokens for its neighbours' barriers, its own position; and for each
    transfer everything but the neighbour's landing window. -/
def ticket (c : Dev nD) (i : Tr) : sProp 𝕄 :=
  iprop(dutyTok ER (sendCell c i) 0 true ∗ dutyTok ER (recvCell (i.into c) i) 0 true ∗ atPos ER (sendCell c i) 0 ∅ 0)
def meeting (c : Dev nD) : sProp 𝕄 :=
  iprop(dutyTok ER (barCell (left c)) 0 true ∗ dutyTok ER (barCell (right c)) 0 false ∗ atPos ER (barCell c) 0 ∅ 0
    ∗ cred (tallyAt (barCell c) () 2) ∗ bigSep Finset.univ (ticket c))

theorem wp_meet (c : Dev nD) {Q : PUnit → sProp 𝕄} :
    iprop(records m K ∗ meeting c ∗ bigSep Finset.univ (fun i : Tr => slot c i) ∗ owing c (O₀ c))
      ⊢ iprop((iprop(going c 0 ∗ semVal (barCell c) 0) -∗ Q ⟨⟩) -∗ Wp c (meetM c) Q) := by
  unfold meetM meeting owing
  simp only [semSignalWord, semWaitWord, Prog.lift, Prog.bind_op, Prog.bind_ret, Prog.pure_eq_ret, dev1_eq, dev2_eq]
  iintro ⟨#Hr, ⟨HtL, HtR, Hat, Hc, Htick⟩, Hslots, ⟨%W, HO⟩⟩ Hk
  ihave #Hlev := (records_lev m K) $$ Hr
  ihave HL := (records_at m K (left c, none)) $$ Hr
  ihave HR := (records_at m K (right c, none)) $$ Hr
  ihave HB := (records_at m K (c, none)) $$ Hr
  unfold record
  icases HL with ⟨#HIL, #HrL⟩
  icases HR with ⟨#HIR, #HrR⟩
  icases HB with ⟨#HIB, -⟩
  ihave Hs := (slots_split c) $$ Hslots
  icases Hs with ⟨HsL, HsR⟩
  iapply (Rounds.wp_signal 𝒱₀ ER (sched m) (c : Thread nD τ) none (dst := (left c : Thread nD τ)) (d := true) (r := 0) (κ := K (left c, none))
      (by rw [duties_bar]; decide) ((amount_bar m (left c) true).trans (by decide)) () (dues c 0 + tallyAt (barCell (right c)) () 1) rfl)
    $$ [HO HtL HsL]
  · isplitr; · iexact HIL
    isplitl [HO]; · iexact HO
    isplitl [HtL]; · iexact HtL
    isplitl [HsL]; · rw [payload_bar]; iexact HsL
    iexact HrL
  iintro HO
  iapply (Rounds.wp_signal 𝒱₀ ER (sched m) (c : Thread nD τ) none (dst := (right c : Thread nD τ)) (d := false) (r := 0) (κ := K (right c, none))
      (by rw [duties_bar]; decide) ((amount_bar m (right c) false).trans (by decide)) () (dues c 0) rfl)
    $$ [HO HtR HsR]
  · isplitr; · iexact HIR
    isplitl [HO]; · iexact HO
    isplitl [HtR]; · iexact HtR
    isplitl [HsR]; · rw [payload_bar]; iexact HsR
    iexact HrR
  iintro HO
  iapply (Rounds.wp_wait_rest_token 𝒱₀ ER (sched m) (c : Thread nD τ) none (κ := K (c, none))
      (wpE_semWait_eq 𝒱₀ (c : Thread nD τ) none Set.univ) (Set.mem_univ _) () (O := dues c 0) (W := W) (R := 0) (m := 0) (T := ∅)
      (by rw [expect_bar]; decide)) $$ [Hc HO Hat]
  · isplitr; · iexact HIB
    isplitl [Hc]; · iexact Hc
    isplitl [HO]; · iexact HO
    isplitr; · iapply (mayWait c (.reg barS) 1 (dues c 0) (Nat.le_of_eq (lv_bar c ())) (above_dues c (by decide))); iexact Hlev
    iexact Hat
  iintro ⟨HO, Hat, -, Hpay⟩
  ihave Hp := (rest_bar m c) $$ Hpay
  imod (Rounds.cell_close ER (sched m) (Set.mem_univ (K (c, none))) (fun h => h) (R := 0 + 1) (duties_later m (barCell c))) $$ [Hat] with Hz
  · isplitr; · iexact HIB
    iexact Hat
  rw [wp_ret]; imodintro
  iapply Hk
  isplitl [Hp Htick HO]
  · unfold going owing
    rw [show (Finset.univ.filter fun i : Tr => 0 ≤ i.ix) = Finset.univ by ext i; simp, show (Finset.univ.filter fun i : Tr => i.ix < 0) = ∅ by ext i; simp, bigSep_empty]
    isplitl [Hp Htick]
    · iapply (show iprop(bigSep Finset.univ (fun i : Tr => slot (F := F) (i.into c) i) ∗ bigSep Finset.univ (ticket (F := F) c)) ⊢ bigSep Finset.univ (ready (F := F) c) from by
        rw [← bigSep_both]; exact Entails.of_eq (bigSep_congr fun i _ => by unfold ready ticket; rfl))
      isplitl [Hp] <;> iassumption
    isplitr; · iempintro
    iexists _; iexact HO
  iexact Hz

end Cert.KernelIdeal.Gen
-- ==== Proof.Fetch.lean ====
/-
  A block's keys and values: their fetches into a slot and the waits for them.
-/
module

public import proofs.«01_k».proof.Proof.Steps

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Batch)

variable {F : FTy → Type} [FloatOps F]

local notation "𝕄" => MT nD τ sig Unit (Elt F) ℕ UU ℕ

variable (m : (ℓ : Loc nD τ sig) → Buf (Elt F) ℓ)

/-! ## Eight steps -/

theorem wp_eight (c : Dev nD) (f : Fin 8 → P F PUnit) (I : ℕ → sProp 𝕄)
    (step : ∀ (h : Fin 8) (Q : PUnit → sProp 𝕄), I h.val ⊢ iprop((I (h.val + 1) -∗ Q ⟨⟩) -∗ Wp c (f h) Q)) {Q : PUnit → sProp 𝕄} :
    I 0 ⊢ iprop((I 8 -∗ Q ⟨⟩) -∗ Wp c (eight f) Q) := by
  have h0 : ∀ Q : PUnit → sProp 𝕄, I 0 ⊢ iprop((I 1 -∗ Q ⟨⟩) -∗ Wp c (f 0) Q) := step 0
  have h1 : ∀ Q : PUnit → sProp 𝕄, I 1 ⊢ iprop((I 2 -∗ Q ⟨⟩) -∗ Wp c (f 1) Q) := step 1
  have h2 : ∀ Q : PUnit → sProp 𝕄, I 2 ⊢ iprop((I 3 -∗ Q ⟨⟩) -∗ Wp c (f 2) Q) := step 2
  have h3 : ∀ Q : PUnit → sProp 𝕄, I 3 ⊢ iprop((I 4 -∗ Q ⟨⟩) -∗ Wp c (f 3) Q) := step 3
  have h4 : ∀ Q : PUnit → sProp 𝕄, I 4 ⊢ iprop((I 5 -∗ Q ⟨⟩) -∗ Wp c (f 4) Q) := step 4
  have h5 : ∀ Q : PUnit → sProp 𝕄, I 5 ⊢ iprop((I 6 -∗ Q ⟨⟩) -∗ Wp c (f 5) Q) := step 5
  have h6 : ∀ Q : PUnit → sProp 𝕄, I 6 ⊢ iprop((I 7 -∗ Q ⟨⟩) -∗ Wp c (f 6) Q) := step 6
  have h7 : ∀ Q : PUnit → sProp 𝕄, I 7 ⊢ iprop((I 8 -∗ Q ⟨⟩) -∗ Wp c (f 7) Q) := step 7
  unfold eight
  iintro H Hk
  simp only [wp_bind]
  iapply (h0 _) $$ H; iintro H
  iapply (h1 _) $$ H; iintro H
  iapply (h2 _) $$ H; iintro H
  iapply (h3 _) $$ H; iintro H
  iapply (h4 _) $$ H; iintro H
  iapply (h5 _) $$ H; iintro H
  iapply (h6 _) $$ H; iintro H
  iapply (h7 _) $$ H; iintro H
  iapply Hk; iexact H

/-! ## The fetches -/

/-- The credit of one head's keys, or values. -/
abbrev Nk : ℕ := (kbW 0 0).view.dmaCredit
theorem Nk_pos : 0 < Nk := View.dmaCredit_pos _ (by decide)
theorem kb_credit (s : Fin 2) (h : Fin 8) : (kbW s h).view.dmaCredit = Nk := rfl
theorem vb_credit (s : Fin 2) (h : Fin 8) : (vbW s h).view.dmaCredit = Nk := rfl

/-- Some share of an argument's contents, as many as one likes. -/
def supply (c : Dev nD) (b : Ref sig .tc) : sProp 𝕄 := iprop(∃ q, (c : Thread nD τ).loc b ↦{q} m ((c : Thread nD τ).loc b))

theorem supply_take (c : Dev nD) (b : Ref sig .tc) (S : Finset (Idx ((c : Thread nD τ).loc b))) :
    supply m c b ⊢ iprop(supply m c b ∗ ∃ q, (c : Thread nD τ).loc b ↦[S]{q} m ((c : Thread nD τ).loc b)) := by
  unfold supply
  iintro ⟨%q, H⟩
  ihave H := (pointsTo_share (PosShare.mem_left_op_right q)).1 $$ H
  icases H with ⟨H, H'⟩
  isplitl [H]; · iexists _; iexact H
  ihave H' := (pointsTo_split_subset (Finset.subset_univ S)).1 $$ H'
  icases H' with ⟨H', -⟩
  iexists _; iexact H'

/-- Head `h`'s keys and values of block `(c + o) % 4`, in slot `s`. -/
def kIn (c : Dev nD) (o : Fin 4) (s : Fin 2) (h : Fin 8) : sProp 𝕄 := owns (c : Thread nD τ) (kbW s h) fullShare (kval m c o h)
def vIn (c : Dev nD) (o : Fin 4) (s : Fin 2) (h : Fin 8) : sProp 𝕄 := owns (c : Thread nD τ) (vbW s h) fullShare (vval m c o h)
instance kIn_storable (c : Dev nD) (o : Fin 4) (s : Fin 2) (h : Fin 8) : BI.Storable (upEmb : UEmb _ 𝕄) (kIn m c o s h) := by unfold kIn; infer_instance
instance vIn_storable (c : Dev nD) (o : Fin 4) (s : Fin 2) (h : Fin 8) : BI.Storable (upEmb : UEmb _ 𝕄) (vIn m c o s h) := by unfold vIn; infer_instance

/-- Slot `s` of the key and of the value buffer, of some contents. -/
def slots (c : Dev nD) (s : Fin 2) : sProp 𝕄 :=
  iprop(bigSep Finset.univ (fun h : Fin 8 => some' (F := F) c (kbW s h) fullShare) ∗ bigSep Finset.univ (fun h : Fin 8 => some' (F := F) c (vbW s h) fullShare))
def filled (c : Dev nD) (o : Fin 4) (s : Fin 2) : sProp 𝕄 := iprop(bigSep Finset.univ (kIn m c o s) ∗ bigSep Finset.univ (vIn m c o s))

theorem kIn_of (c : Dev nD) (o : Fin 4) (s : Fin 2) (h : Fin 8) {q : PosShare TreeShare} (f : Buf (Elt F) ((kbW s h).view.loc (c : Thread nD τ))) :
    iprop(((kbW s h).view.loc (c : Thread nD τ) ↦[(kbW s h).view.set]{fullShare} ((kbW s h).view.write (Elt F) f (kval m c o h) Finset.univ))
        ∗ ((kW c o h).view.loc (c : Thread nD τ) ↦[(kW c o h).view.set]{q} m ((c : Thread nD τ).loc main_arg3))) ⊢ kIn m c o s h := by
  unfold kIn owns
  iintro ⟨H, -⟩
  iexists ((kbW s h).view.write (Elt F) f (kval m c o h) Finset.univ)
  isplitr
  · ipureintro; exact View.read_write_univ _ _
  iexact H
theorem kIn_some (c : Dev nD) (o : Fin 4) (s : Fin 2) (h : Fin 8) : kIn m c o s h ⊢ some' (F := F) c (kbW s h) fullShare := by
  unfold kIn owns some'; iintro ⟨%f, -, H⟩; iexists f; iexact H
theorem vIn_of (c : Dev nD) (o : Fin 4) (s : Fin 2) (h : Fin 8) {q : PosShare TreeShare} (f : Buf (Elt F) ((vbW s h).view.loc (c : Thread nD τ))) :
    iprop(((vbW s h).view.loc (c : Thread nD τ) ↦[(vbW s h).view.set]{fullShare} ((vbW s h).view.write (Elt F) f (vval m c o h) Finset.univ))
        ∗ ((vW c o h).view.loc (c : Thread nD τ) ↦[(vW c o h).view.set]{q} m ((c : Thread nD τ).loc main_arg4))) ⊢ vIn m c o s h := by
  unfold vIn owns
  iintro ⟨H, -⟩
  iexists ((vbW s h).view.write (Elt F) f (vval m c o h) Finset.univ)
  isplitr
  · ipureintro; exact View.read_write_univ _ _
  iexact H
theorem vIn_some (c : Dev nD) (o : Fin 4) (s : Fin 2) (h : Fin 8) : vIn m c o s h ⊢ some' (F := F) c (vbW s h) fullShare := by
  unfold vIn owns some'; iintro ⟨%f, -, H⟩; iexists f; iexact H
theorem filled_slots (c : Dev nD) (o : Fin 4) (s : Fin 2) : filled m c o s ⊢ slots (F := F) c s := by
  unfold filled slots
  exact BIClass.sep_mono (bigSep_mono fun h _ => kIn_some m c o s h) (bigSep_mono fun h _ => vIn_some m c o s h)

/-- The slot's two semaphores at rest. -/
def idle (c : Dev nD) (s : Fin 2) : sProp 𝕄 :=
  iprop(semVal ((c : Thread nD τ), .dma (kvSem s 0)) 0 ∗ semVal ((c : Thread nD τ), .dma (kvSem s 1)) 0)

/-- `j` of the eight heads on their way. -/
def fetching (c : Dev nD) (o : Fin 4) (s : Fin 2) (j : ℕ) : sProp 𝕄 :=
  iprop(Batch countersEmb (c : Thread nD τ) (.dma (kvSem s 0)) () Nk (kIn m c o s) j 0 ∗ Batch countersEmb (c : Thread nD τ) (.dma (kvSem s 1)) () Nk (vIn m c o s) j 0)
def fetchI (c : Dev nD) (o : Fin 4) (s : Fin 2) (j : ℕ) : sProp 𝕄 :=
  iprop(supply m c main_arg3 ∗ supply m c main_arg4 ∗ fetching m c o s j
    ∗ bigSep (Transfers.pending j) (fun h : Fin 8 => some' (F := F) c (kbW s h) fullShare) ∗ bigSep (Transfers.pending j) (fun h : Fin 8 => some' (F := F) c (vbW s h) fullShare))

theorem pending_take {n : ℕ} (h : Fin n) (Φ : Fin n → sProp 𝕄) :
    bigSep (Transfers.pending h.val) Φ = iprop(Φ h ∗ bigSep (Transfers.pending (h.val + 1)) Φ) := by
  rw [Transfers.pending_succ h.isLt, bigSep_cons (Transfers.not_mem_pending_succ h.isLt)]

theorem wp_fetchH (c : Dev nD) (o : Fin 4) (s : Fin 2) (h : Fin 8) (Q : PUnit → sProp 𝕄) :
    fetchI m c o s h.val ⊢ iprop((fetchI m c o s (h.val + 1) -∗ Q ⟨⟩) -∗ Wp c (fetchH c o s h) Q) := by
  unfold fetchI fetching fetchH
  simp only [Prog.lift, Prog.bind_op, Prog.bind_ret, Prog.pure_eq_ret]
  rw [pending_take h, pending_take h]
  iintro ⟨HK, HV, ⟨HBk, HBv⟩, ⟨Hk, Hks⟩, ⟨Hv, Hvs⟩⟩ Hcont
  ihave HK := (supply_take m c main_arg3 (kW c o h).view.set) $$ HK
  icases HK with ⟨HK, ⟨%qk, Hsk⟩⟩
  ihave HV := (supply_take m c main_arg4 (vW c o h).view.set) $$ HV
  icases HV with ⟨HV, ⟨%qv, Hsv⟩⟩
  unfold some'
  icases Hk with ⟨%fk, Hk⟩
  icases Hv with ⟨%fv, Hv⟩
  iapply (Transfers.wp_dmaBatch countersEmb 𝒱₀ (c : Thread nD τ) none (src := kW c o h) (via := .same) (fs := m ((c : Thread nD τ).loc main_arg3)) (Sd := (kbW s h).view.set) (dst := kbW s h) (sm := .dma (kvSem s 0)) (D := kIn m c o s) (j := h.val) (u := 0) (fd := fk)
      () Nk (kb_credit s h) (Finset.Subset.refl _) h.isLt (Nat.zero_le _)
      (kIn_of m c o s h fk)) $$ [Hsk Hk HBk]
  · isplitl [Hsk]; · iexact Hsk
    isplitl [Hk]; · iexact Hk
    iexact HBk
  iintro HBk
  iapply (Transfers.wp_dmaBatch countersEmb 𝒱₀ (c : Thread nD τ) none (src := vW c o h) (via := .same) (fs := m ((c : Thread nD τ).loc main_arg4)) (Sd := (vbW s h).view.set) (dst := vbW s h) (sm := .dma (kvSem s 1)) (D := vIn m c o s) (j := h.val) (u := 0) (fd := fv)
      () Nk (vb_credit s h) (Finset.Subset.refl _) h.isLt (Nat.zero_le _)
      (vIn_of m c o s h fv)) $$ [Hsv Hv HBv]
  · isplitl [Hsv]; · iexact Hsv
    isplitl [Hv]; · iexact Hv
    iexact HBv
  iintro HBv
  rw [wp_ret]; imodintro
  iapply Hcont
  isplitl [HK]; · iexact HK
  isplitl [HV]; · iexact HV
  isplitl [HBk HBv]
  · isplitl [HBk] <;> iassumption
  isplitl [Hks] <;> iassumption

/-- All eight fetches into slot `s`. -/
theorem wp_fetch (c : Dev nD) (o : Fin 4) (s : Fin 2) {Q : PUnit → sProp 𝕄} :
    iprop(supply m c main_arg3 ∗ supply m c main_arg4 ∗ idle c s ∗ slots c s)
      ⊢ iprop((iprop(supply m c main_arg3 ∗ supply m c main_arg4 ∗ fetching m c o s 8) -∗ Q ⟨⟩) -∗ Wp c (eight (fetchH c o s)) Q) := by
  unfold idle slots
  iintro ⟨HK, HV, ⟨Hsk, Hsv⟩, ⟨Hk, Hv⟩⟩ Hcont
  imod (Transfers.batch_alloc' countersEmb (c : Thread nD τ) () Nk (kIn m c o s) (E := Set.univ)) $$ Hsk with HBk
  imod (Transfers.batch_alloc' countersEmb (c : Thread nD τ) () Nk (vIn m c o s) (E := Set.univ)) $$ Hsv with HBv
  iapply (wp_eight c (fetchH c o s) (fetchI m c o s) (wp_fetchH m c o s)) $$ [HK HV HBk HBv Hk Hv]
  · unfold fetchI fetching
    rw [Transfers.pending_zero]
    isplitl [HK]; · iexact HK
    isplitl [HV]; · iexact HV
    isplitl [HBk HBv]
    · isplitl [HBk] <;> iassumption
    isplitl [Hk] <;> iassumption
  unfold fetchI
  iintro ⟨HK, HV, HB, -, -⟩
  iapply Hcont
  isplitl [HK]; · iexact HK
  isplitl [HV] <;> iassumption

/-! ## The waits -/

/-- `j` of the eight waits on `sm` done. -/
def half (c : Dev nD) (sm : DmaSem sig) (D : Fin 8 → sProp 𝕄) (j : ℕ) : sProp 𝕄 :=
  if j < 8 then Batch countersEmb (c : Thread nD τ) (.dma sm) () Nk D 8 (j * Nk) else iprop(bigSep Finset.univ D ∗ semVal ((c : Thread nD τ), .dma sm) 0)

theorem half_end (c : Dev nD) (sm : DmaSem sig) (D : Fin 8 → sProp 𝕄) : half c sm D 8 ⊢ iprop(bigSep Finset.univ D ∗ semVal ((c : Thread nD τ), .dma sm) 0) := by
  unfold half; rw [if_neg (by decide)]

theorem wp_await1 (c : Dev nD) (sm : DmaSem sig) (hsm : ∀ i : Tr, sm ≠ i.rS) (D : Fin 8 → sProp 𝕄) (h : Fin 8) (O : CellTallies nD τ sig Unit) (hO : Above 0 O)
    {spa : Space} {src : Memref sig .tc spa S1024x128 .f32} {dst : Memref sig .tc .vmem S1024x128 .f32} {hs : src.view.WordExact} {hd : dst.view.WordExact}
    (hN : dst.view.dmaCredit = Nk) {α : Type} {k : PUnit → P F α} {Q : α → sProp 𝕄} :
    iprop(levAts L lv ∗ half c sm D h.val ∗ owing c O)
      ⊢ iprop((iprop(half c sm D (h.val + 1) ∗ owing c O) -∗ Wp c (k ⟨⟩) Q) -∗ Wp c (.op (.waitDma2 sm src dst hs hd) k) Q) := by
  unfold owing half
  rw [if_pos h.isLt]
  have hMW := mayWait (F := F) c (.dma sm) 0 O (Nat.le_of_eq (lv_low c sm hsm ())) hO
  by_cases hl : h.val + 1 < 8
  · rw [if_pos hl, show (h.val + 1) * Nk = h.val * Nk + Nk from Nat.succ_mul _ _]
    iintro ⟨#Hlev, HB, ⟨%W, HO⟩⟩ Hk
    have hu : h.val * Nk + Nk < Nk * 8 := by
      rw [← Nat.succ_mul, Nat.mul_comm Nk 8]; exact Nat.mul_lt_mul_of_pos_right hl Nk_pos
    iapply (Transfers.wp_waitBatchO countersEmb 𝒱₀ (c : Thread nD τ) none () hN hu (O := O) (W := W)) $$ [HB HO]
    · isplitl [HB]; · iexact HB
      isplitl [HO]; · iexact HO
      iapply hMW; iexact Hlev
    iintro ⟨HB, HO⟩
    iapply Hk
    isplitl [HB]; · iexact HB
    iexists _; iexact HO
  · rw [if_neg hl]
    iintro ⟨#Hlev, HB, ⟨%W, HO⟩⟩ Hk
    have h7 : h.val = 7 := by omega
    have hu : h.val * Nk + Nk = Nk * 8 := by rw [h7]; omega
    iapply (Transfers.wp_waitBatchLastO countersEmb 𝒱₀ (c : Thread nD τ) none () hN Nk_pos hu (O := O) (W := W)) $$ [HB HO]
    · isplitl [HB]; · iexact HB
      isplitl [HO]; · iexact HO
      iapply hMW; iexact Hlev
    iintro ⟨HD, Hz, HO⟩
    iapply Hk
    isplitl [HD Hz]
    · isplitl [HD] <;> iassumption
    iexists _; iexact HO

theorem kv_low : ∀ (s k : Fin 2) (i : Tr), kvSem s k ≠ i.rS := by decide +kernel

/-- All the waits for slot `s`. -/
theorem wp_await (K : Dev nD × Slot → ℕ) (c : Dev nD) (o : Fin 4) (s : Fin 2) (n : ℕ) {Q : PUnit → sProp 𝕄} :
    iprop(records m K ∗ fetching m c o s 8 ∗ going c n)
      ⊢ iprop((iprop(filled m c o s ∗ idle c s ∗ going c n) -∗ Q ⟨⟩) -∗ Wp c (eight (awaitH c o s)) Q) := by
  unfold going filled idle
  iintro ⟨#Hr, HB, ⟨Hready, Hpend, HO⟩⟩ Hk
  ihave #Hlev := (records_lev m K) $$ Hr
  unfold fetching
  icases HB with ⟨HBk, HBv⟩
  iapply (wp_eight c (awaitH c o s)
      (fun j => iprop(levAts L lv ∗ half c (kvSem s 0) (kIn m c o s) j ∗ half c (kvSem s 1) (vIn m c o s) j ∗ owing c (dues c n)))
      (fun h Q => by
        unfold awaitH
        simp only [Prog.lift, Prog.bind_op, Prog.bind_ret, Prog.pure_eq_ret]
        iintro ⟨#Hl, H0, H1, HO⟩ Hk
        iapply (wp_await1 c (kvSem s 0) (kv_low s 0) (kIn m c o s) h (dues c n) (above_dues c (by omega)) (kb_credit s h)) $$ [H0 HO]
        · isplitr; · iexact Hl
          isplitl [H0] <;> iassumption
        iintro ⟨H0, HO⟩
        iapply (wp_await1 c (kvSem s 1) (kv_low s 1) (vIn m c o s) h (dues c n) (above_dues c (by omega)) (vb_credit s h)) $$ [H1 HO]
        · isplitr; · iexact Hl
          isplitl [H1] <;> iassumption
        iintro ⟨H1, HO⟩
        iapply (wp_done c _ _)
        iapply Hk
        isplitr; · iexact Hl
        isplitl [H0]; · iexact H0
        isplitl [H1] <;> iassumption)) $$ [HBk HBv HO]
  · isplitr; · iexact Hlev
    unfold half
    rw [if_pos (by decide), if_pos (by decide), Nat.zero_mul]
    isplitl [HBk]; · iexact HBk
    isplitl [HBv] <;> iassumption
  iintro ⟨-, H0, H1, HO⟩
  iapply Hk
  ihave H0 := (half_end c _ _) $$ H0
  ihave H1 := (half_end c _ _) $$ H1
  icases H0 with ⟨HDk, Hzk⟩
  icases H1 with ⟨HDv, Hzv⟩
  isplitl [HDk HDv]
  · isplitl [HDk] <;> iassumption
  isplitl [Hzk Hzv]
  · isplitl [Hzk] <;> iassumption
  isplitl [Hready]; · iexact Hready
  isplitl [Hpend] <;> iassumption

end Cert.KernelIdeal.Gen
-- ==== Proof.Heads.lean ====
/-
  The computation between transfers: the rounded weights and the queries, one head's attention, and one half's heads with their
  projection.
-/
module

public import proofs.«01_k».proof.Proof.Fetch

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## The attention buffer -/

abbrev attnR (p : Fin 2) (h : Fin 8) : Rect S256x1024 := Rect.unit (s := S256x1024) ![128 * p.val, 128 * h.val] S128x128.size (attn_inb p h)
abbrev halfR (p : Fin 2) : Rect S256x1024 := Rect.unit (s := S256x1024) ![128 * p.val, 0] S128x1024.size (half_inb p)

/-- The first `j` heads' columns of half `p` of the attention buffer hold their attention. -/
def attnI (c : Dev nD) (o : Fin 4) (p : Fin 2) (j : ℕ) : sProp 𝕄 :=
  iprop(∃ f, ⌜∀ h : Fin 8, h.val < j → attnM.view.readAt (Elt F) (attnR p h).toLoadRect f = headOut m c o p h⌝
    ∗ (attnM.view.loc (c : Thread nD τ) ↦{fullShare} f))

/-- The attention buffer of some contents. -/
def attnAny (c : Dev nD) : sProp 𝕄 := iprop(∃ f, attnM.view.loc (c : Thread nD τ) ↦{fullShare} f)

theorem attnI_zero (c : Dev nD) (o : Fin 4) (p : Fin 2) : attnAny (F := F) c ⊢ attnI m c o p 0 := by
  unfold attnAny attnI
  iintro ⟨%f, H⟩
  iexists f
  isplitr; · ipureintro; exact fun h hh => absurd hh (Nat.not_lt_zero _)
  iexact H

theorem attnR_disjoint (p : Fin 2) (h h' : Fin 8) (hne : h ≠ h') : Disjoint (attnR p h).set (attnR p h').set := by
  refine Rect.disjoint_of_separated _ _ (1 : Fin 2) ?_
  have : h.val ≠ h'.val := fun e => hne (Fin.ext e)
  show (128 = 0 ∨ 128 * h.val + 1 * (128 - 1) < 128 * h'.val) ∨ (128 = 0 ∨ 128 * h'.val + 1 * (128 - 1) < 128 * h.val)
  omega

/-- A head's store adds its columns and leaves the others'. -/
theorem attn_store (c : Dev nD) (o : Fin 4) (p : Fin 2) (h : Fin 8) (f : attnM.view.ty.Contents (Elt F)) (w : Vec F S128x128 .bf16) (hw : w = headOut m c o p h)
    (hf : ∀ k : Fin 8, k.val < h.val → attnM.view.readAt (Elt F) (attnR p k).toLoadRect f = headOut m c o p k) :
    ∀ k : Fin 8, k.val < h.val + 1 → attnM.view.readAt (Elt F) (attnR p k).toLoadRect ((attnM.access (attnR p h)).write (Elt F) f w Finset.univ) = headOut m c o p k := by
  intro k hk
  rw [View.readAt_rect]
  by_cases hkh : k = h
  · subst hkh
    rw [View.read_write_univ, hw]
  · rw [View.read_slice_write_slice_of_disjoint _ _ _ _ _ (by
      rw [View.setOn_univ, View.set_slice_whole, View.set_slice_whole]; exact attnR_disjoint p k h hkh), ← View.readAt_rect]
    exact hf k (by have : k.val ≠ h.val := fun e => hkh (Fin.ext e); omega)

/-- The whole half, when its eight heads are there. -/
theorem attn_half (c : Dev nD) (o : Fin 4) (p : Fin 2) (f : attnM.view.ty.Contents (Elt F))
    (hf : ∀ k : Fin 8, k.val < 8 → attnM.view.readAt (Elt F) (attnR p k).toLoadRect f = headOut m c o p k) :
    attnM.view.readAt (Elt F) (halfR p).toLoadRect f = attnHalf m c o p := by
  funext i
  unfold attnHalf
  rw [← hf _ (Fin.isLt _), View.readAt_apply, View.readAt_apply]
  congr 1
  funext a
  match a with
  | 0 => exact Fin.ext rfl
  | 1 =>
    refine Fin.ext ?_
    show 0 + 1 * (i 1).val = 128 * ((i 1).val / 128) + 1 * ((i 1).val % 128)
    omega

/-! ## One head -/

def qHeld (c : Dev nD) : sProp 𝕄 := iprop(qbM.view.loc (c : Thread nD τ) ↦{fullShare} queries m c)
def wHeld (c : Dev nD) : sProp 𝕄 := iprop(wobM.view.loc (c : Thread nD τ) ↦{fullShare} wobf m c)

def headsI (c : Dev nD) (o : Fin 4) (s p : Fin 2) (j : ℕ) : sProp 𝕄 := iprop(qHeld m c ∗ filled m c o s ∗ attnI m c o p j)

theorem wp_headM (c : Dev nD) (o : Fin 4) (s p : Fin 2) (h : Fin 8) (Q : PUnit → sProp 𝕄) :
    headsI m c o s p h.val ⊢ iprop((headsI m c o s p (h.val + 1) -∗ Q ⟨⟩) -∗ Wp c (headM c o s p h) Q) := by
  unfold headsI headM filled
  simp only [Prog.lift, Prog.bind_op, Prog.bind_ret, Prog.pure_eq_ret]
  rw [bigSep_take (Finset.mem_univ h), bigSep_take (Finset.mem_univ h)]
  unfold qHeld attnI kIn vIn owns
  iintro ⟨Hq, ⟨⟨⟨%fk, %hk, Hk⟩, Hks⟩, ⟨⟨%fv, %hv, Hv⟩, Hvs⟩⟩, ⟨%fa, %ha, Ha⟩⟩ Hcont
  iapply (wp_load 𝒱₀ (c : Thread nD τ) none Set.univ (m := qbM) (Finset.subset_univ _)) $$ Hq; iintro Hq
  iapply (wp_load 𝒱₀ (c : Thread nD τ) none Set.univ (m := kbM) (S := (kbW s h).view.set) (by
    rw [View.set_reshape, View.set_slice]; exact Finset.Subset.refl _)) $$ Hk; iintro Hk
  iapply (wp_load 𝒱₀ (c : Thread nD τ) none Set.univ (m := vbM) (S := (vbW s h).view.set) (by
    rw [View.set_reshape, View.set_slice]; exact Finset.Subset.refl _)) $$ Hv; iintro Hv
  iapply (wp_load 𝒱₀ (c : Thread nD τ) none Set.univ (m := attnM) (Finset.subset_univ _)) $$ Ha; iintro Ha
  iapply (wp_store 𝒱₀ (c : Thread nD τ) none Set.univ (m := attnM) (r := attnR p h) (Finset.subset_univ _)) $$ Ha; iintro Ha
  iapply (wp_done c _ _)
  iapply Hcont
  isplitl [Hq]; · iexact Hq
  isplitl [Hk Hks Hv Hvs]
  · isplitl [Hk Hks]
    · isplitl [Hk]
      · iexists fk
        isplitr; · ipureintro; exact hk
        iexact Hk
      iexact Hks
    isplitl [Hv]
    · iexists fv
      isplitr; · ipureintro; exact hv
      iexact Hv
    iexact Hvs
  have hw : k0_pay8 (qbM.view.readAt (Elt F) (Rect.unit (s := S1024x1024) (qOff c o p h) S128x128.size (qOff_inb c o p h)).toLoadRect (queries m c))
      (kbM.view.readAt (Elt F) (Rect.unit (s := S2x8x1024x128) ![s.val, h.val, 0, 0] S1x1x1024x128.size (kv_inb s h)).toLoadRect fk)
      (vbM.view.readAt (Elt F) (Rect.unit (s := S2x8x1024x128) ![s.val, h.val, 0, 0] S1x1x1024x128.size (kv_inb s h)).toLoadRect fv) = headOut m c o p h := by
    rw [pay8_eq]
    unfold headOut qtile
    rw [← hk, ← hv]
    rfl
  iexists ((attnM.access (attnR p h)).write (Elt F) fa (k0_pay8 _ _ _) Finset.univ)
  isplitr
  · ipureintro
    exact attn_store m c o p h fa _ hw ha
  iexact Ha

/-! ## One half -/

theorem wp_halfM (c : Dev nD) (o : Fin 4) (s p : Fin 2) {Q : FVec F S128x1024 .f32 → sProp 𝕄} :
    iprop(qHeld m c ∗ wHeld m c ∗ filled m c o s ∗ attnAny c)
      ⊢ iprop((iprop(qHeld m c ∗ wHeld m c ∗ filled m c o s ∗ attnAny c) -∗ Q (part m c o p)) -∗ Wp c (halfM c o s p) Q) := by
  unfold halfM
  iintro ⟨Hq, Hw, Hkv, Ha⟩ Hcont
  ihave Ha := (attnI_zero m c o p) $$ Ha
  simp only [wp_bind]
  iapply (wp_eight c (headM c o s p) (headsI m c o s p) (wp_headM m c o s p)) $$ [Hq Hkv Ha]
  · unfold headsI
    isplitl [Hq]; · iexact Hq
    isplitl [Hkv] <;> iassumption
  unfold headsI attnI wHeld
  iintro ⟨Hq, Hkv, ⟨%fa, %ha, Ha⟩⟩
  simp only [← wp_bind]
  simp only [Prog.lift, Prog.bind_op, Prog.bind_ret, Prog.pure_eq_ret]
  iapply (wp_load 𝒱₀ (c : Thread nD τ) none Set.univ (m := attnM) (Finset.subset_univ _)) $$ Ha; iintro Ha
  iapply (wp_load 𝒱₀ (c : Thread nD τ) none Set.univ (m := wobM) (Finset.subset_univ _)) $$ Hw; iintro Hw
  iapply (wp_done c _ _)
  have e1 : attnM.view.readAt (Elt F) (halfR p).toLoadRect fa = attnHalf m c o p := attn_half m c o p fa ha
  have e2 : wobM.view.readAt (Elt F) (Rect.unit (s := S1024x1024) ![0, 0] S1024x1024.size inb_S1024x1024_S1024x1024_0_0).toLoadRect (wobf m c) = wobf m c :=
    Memref.readAt_unit_zero (Elt F) cc0_scratch4 (by funext a; fin_cases a <;> rfl) _ _
  have e3 : Q (part m c o p) ⊢ Q (project (attnM.view.readAt (Elt F) (halfR p).toLoadRect fa)
      (wobM.view.readAt (Elt F) (Rect.unit (s := S1024x1024) ![0, 0] S1024x1024.size inb_S1024x1024_S1024x1024_0_0).toLoadRect (wobf m c))) := by
    rw [e1, e2]; exact Entails.of_eq rfl
  iapply e3
  iapply Hcont
  isplitl [Hq]; · iexact Hq
  isplitl [Hw]; · iexact Hw
  isplitl [Hkv]; · iexact Hkv
  unfold attnAny
  iexists fa; iexact Ha

/-! ## The weights and the queries -/

/-- A whole scratch buffer of some contents. -/
def anyBuf (c : Dev nD) (b : Ref sig .tc) : sProp 𝕄 := iprop(∃ f, (c : Thread nD τ).loc b ↦{fullShare} f)

/-- The staged arguments. -/
def staged (c : Dev nD) : sProp 𝕄 :=
  iprop((xM.view.loc (c : Thread nD τ) ↦{fullShare} xstg m c) ∗ (wqM.view.loc (c : Thread nD τ) ↦{fullShare} wqstg m c)
    ∗ (woM.view.loc (c : Thread nD τ) ↦{fullShare} wostg m c))

theorem zero2 : (![0, 0] : Fin 2 → Nat) = fun _ => 0 := by funext a; fin_cases a <;> rfl
theorem zero3 : (![0, 0, 0] : Fin 3 → Nat) = fun _ => 0 := by funext a; fin_cases a <;> rfl

theorem wp_prepM (c : Dev nD) {Q : PUnit → sProp 𝕄} :
    iprop(staged m c ∗ anyBuf (F := F) c cc0_scratch3 ∗ anyBuf (F := F) c cc0_scratch4 ∗ anyBuf (F := F) c cc0_scratch5)
      ⊢ iprop((iprop(staged m c ∗ anyBuf (F := F) c cc0_scratch3 ∗ wHeld m c ∗ qHeld m c) -∗ Q ⟨⟩) -∗ Wp c prepM Q) := by
  unfold staged anyBuf wHeld qHeld prepM
  simp only [Prog.lift, Prog.bind_op, Prog.bind_ret, Prog.pure_eq_ret]
  iintro ⟨⟨Hx, Ha, Hb⟩, ⟨%f3, H3⟩, ⟨%f4, H4⟩, ⟨%f5, H5⟩⟩ Hcont
  iapply (wp_load 𝒱₀ (c : Thread nD τ) none Set.univ (m := wqM) (Finset.subset_univ _)) $$ Ha; iintro Ha
  iapply (wp_load 𝒱₀ (c : Thread nD τ) none Set.univ (m := wqbM) (Finset.subset_univ _)) $$ H3; iintro H3
  iapply (wp_store 𝒱₀ (c : Thread nD τ) none Set.univ (m := wqbM) (r := Rect.unit (s := S1024x1024) ![0, 0] S1024x1024.size inb_S1024x1024_S1024x1024_0_0) (Finset.subset_univ _)) $$ H3; iintro H3
  iapply (wp_load 𝒱₀ (c : Thread nD τ) none Set.univ (m := woM) (Finset.subset_univ _)) $$ Hb; iintro Hb
  iapply (wp_load 𝒱₀ (c : Thread nD τ) none Set.univ (m := wobM) (Finset.subset_univ _)) $$ H4; iintro H4
  iapply (wp_store 𝒱₀ (c : Thread nD τ) none Set.univ (m := wobM) (r := Rect.unit (s := S1024x1024) ![0, 0] S1024x1024.size inb_S1024x1024_S1024x1024_0_0) (Finset.subset_univ _)) $$ H4; iintro H4
  iapply (wp_load 𝒱₀ (c : Thread nD τ) none Set.univ (m := xM) (Finset.subset_univ _)) $$ Hx; iintro Hx
  iapply (wp_load 𝒱₀ (c : Thread nD τ) none Set.univ (m := wqbM) (Finset.subset_univ _)) $$ H3; iintro H3
  iapply (wp_load 𝒱₀ (c : Thread nD τ) none Set.univ (m := qbM) (Finset.subset_univ _)) $$ H5; iintro H5
  iapply (wp_store 𝒱₀ (c : Thread nD τ) none Set.univ (m := qbM) (r := Rect.unit (s := S1024x1024) ![0, 0] S1024x1024.size inb_S1024x1024_S1024x1024_0_0) (Finset.subset_univ _)) $$ H5; iintro H5
  iapply (wp_done c _ _)
  iapply Hcont
  have r1 := Memref.readAt_unit_zero (Elt F) (cc0_stg1_0 : Ref sig .tc) zero2 inb_S1024x1024_S1024x1024_0_0 (wqstg m c)
  have r2 := Memref.readAt_unit_zero (Elt F) (cc0_stg2_0 : Ref sig .tc) zero2 inb_S1024x1024_S1024x1024_0_0 (wostg m c)
  have r0 := Memref.readAt_unit_zero (Elt F) (cc0_stg0_0 : Ref sig .tc) zero3 inb_S4x256x1024_S4x256x1024_0_0_0 (xstg m c)
  have r3 : ∀ f, _ := Memref.readAt_unit_zero (Elt F) (cc0_scratch3 : Ref sig .tc) zero2 inb_S1024x1024_S1024x1024_0_0
  have w3 : ∀ f w, _ := Memref.write_access_unit_zero_univ (Elt F) (cc0_scratch3 : Ref sig .tc) zero2 inb_S1024x1024_S1024x1024_0_0
  have w4 : ∀ f w, _ := Memref.write_access_unit_zero_univ (Elt F) (cc0_scratch4 : Ref sig .tc) zero2 inb_S1024x1024_S1024x1024_0_0
  have w5 : ∀ f w, _ := Memref.write_access_unit_zero_univ (Elt F) (cc0_scratch5 : Ref sig .tc) zero2 inb_S1024x1024_S1024x1024_0_0
  isplitl [Hx Ha Hb]
  · isplitl [Hx]; · iexact Hx
    isplitl [Ha] <;> iassumption
  isplitl [H3]; · iexists _; iexact H3
  isplitl [H4]
  · iapply (Entails.of_eq (congrArg (fun w => iprop(wobM.view.loc (c : Thread nD τ) ↦{fullShare} w)) ?_)) $$ H4
    refine (w4 _ _).trans ?_
    unfold wobf
    exact congrArg k0_pay2 r2
  · iapply (Entails.of_eq (congrArg (fun w => iprop(qbM.view.loc (c : Thread nD τ) ↦{fullShare} w)) ?_)) $$ H5
    refine (w5 _ _).trans ?_
    unfold queries wqbf
    refine congrArg k0_pay4 (congrArg₂ k0_pay3 r0 ?_)
    exact (r3 _).trans ((w3 _ _).trans (congrArg k0_pay1 r1))

end Cert.KernelIdeal.Gen
-- ==== Proof.Pass.lean ====
/-
  One half at each step of the ring: what is added, what is sent on, and, at the last step, what goes into the result.
-/
module

public import proofs.«01_k».proof.Proof.Heads
public import Idealize.ShloMosaic.Lib.Pipeline.Value
public import Idealize.ShloMosaic.Lib.ValueLayout

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × Slot → ℕ)

/-! ## Sending a sum on, and taking one in -/

abbrev rsR (t : Fin 3) (p : Fin 2) : Rect S3x256x1024 := Rect.unit (s := S3x256x1024) ![t.val, 128 * p.val, 0] S1x128x1024.size (rs_inb t p)

theorem rsSW_set (t : Fin 3) (p : Fin 2) : (rsSW t p).view.set = (rsSM.access (rsR t p)).set := View.set_reshape _ _
theorem rsRW_set (t : Fin 3) (p : Fin 2) : (rsRW t p).view.set = (rsRM.access (rsR t p)).set := View.set_reshape _ _

/-- A landed transfer's window and its semaphore at rest. -/
def landed (c : Dev nD) (i : Tr) : sProp 𝕄 := iprop(some' (F := F) c i.dst fullShare ∗ semVal (recvCell c i) 0)

theorem owns_some (c : Dev nD) {s : Shape} {e : EltTy} (w : Memref sig .tc .vmem s e) (q : PosShare TreeShare) (X : s.Idx → Elt F e) :
    (owns (c : Thread nD τ) w q X : sProp 𝕄) ⊢ some' (F := F) c w q := by
  unfold owns some'; iintro ⟨%f, -, H⟩; iexists f; iexact H

theorem wp_passM (c e : Dev nD) (t : Fin 3) (p : Fin 2) (v : FVec F S128x1024 .bf16) (hv : v = sumAt m t.val c p) (he : e = right c) {n n' : ℕ} (hn : 2 * t.val + p.val = n)
    (hn' : n + 1 = n') {Q : PUnit → sProp 𝕄} :
    iprop(records m K ∗ going c n ∗ some' (F := F) c (rsSW t p) fullShare)
      ⊢ iprop((going (F := F) c n' -∗ Q ⟨⟩) -∗ Wp c (passM t p v e) Q) := by
  subst hn'
  unfold passM some'
  simp only [Prog.lift, Prog.bind_op, Prog.bind_ret, Prog.pure_eq_ret]
  iintro ⟨#Hr, Hg, ⟨%f, Hw⟩⟩ Hcont
  iapply (wp_load_rect 𝒱₀ (c : Thread nD τ) none Set.univ (m := rsSM) (r := rsR t p) (S := (rsSW t p).view.set) (by rw [rsSW_set])) $$ Hw; iintro Hw
  iapply (wp_store 𝒱₀ (c : Thread nD τ) none Set.univ (m := rsSM) (r := rsR t p) (S := (rsSW t p).view.set) (by rw [rsSW_set, View.setOn_univ])) $$ Hw; iintro Hw
  iapply (wp_send m K c e (.rs t p) he (α := PUnit) (n := n) hn) $$ [Hg Hw]
  · isplitr; · iexact Hr
    isplitl [Hg]; · iexact Hg
    unfold owns
    iexists ((rsSM.access (rsR t p)).write (Elt F) f (shapeCast S1x128x1024 v shapeCasts_S128x1024_S1x128x1024) Finset.univ)
    isplitr
    · ipureintro
      have h1 : (rsSM.access (rsR t p)).read (Elt F) ((rsSM.access (rsR t p)).write (Elt F) f (shapeCast S1x128x1024 v shapeCasts_S128x1024_S1x128x1024) Finset.univ)
          = shapeCast S1x128x1024 v shapeCasts_S128x1024_S1x128x1024 := View.read_write_univ _ _
      show shapeCast S128x1024 ((rsSM.access (rsR t p)).read (Elt F) _) shapeCasts_S1x128x1024_S128x1024 = sumAt m t.val c p
      rw [h1]; exact (shapeCast_shapeCast v _ _).trans hv
    iexact Hw
  iexact Hcont

theorem wp_recvM (c : Dev nD) (t : Fin 3) (p : Fin 2) {n : ℕ} (hn : 2 * t.val + p.val < n) {Q : Vec F S1x128x1024 .bf16 → sProp 𝕄} :
    iprop(records m K ∗ going c n ∗ expecting c (.rs t p))
      ⊢ iprop((iprop(going c n ∗ landed c (.rs t p)) -∗ Q (shapeCast S1x128x1024 (sumAt m t.val (left c) p) shapeCasts_S128x1024_S1x128x1024)) -∗ Wp c (recvM t p) Q) := by
  unfold recvM
  iintro ⟨#Hr, Hg, He⟩ Hcont
  simp only [wp_bind]
  iapply (wp_recv m K c (.rs t p) n hn (hd := rsRW_words t p) (dst_credit (.rs t p))) $$ [Hg He]
  · isplitr; · iexact Hr
    isplitl [Hg] <;> iassumption
  iintro ⟨Hg, Hw, Hz⟩
  ihave Hw := (show (owns (c : Thread nD τ) (Tr.rs t p).dst fullShare (sent m (Tr.origin c (.rs t p)) (.rs t p)) : sProp 𝕄)
    ⊢ owns (c : Thread nD τ) (rsRW t p) fullShare (sumAt m t.val (left c) p) from Entails.of_eq rfl) $$ Hw
  unfold owns
  icases Hw with ⟨%f, %hf, Hw⟩
  simp only [Prog.lift]
  iapply (wp_load_rect 𝒱₀ (c : Thread nD τ) none Set.univ (m := rsRM) (r := rsR t p) (S := (rsRW t p).view.set) (by rw [rsRW_set])) $$ Hw; iintro Hw
  iapply (wp_done c _ _)
  have e1 : shapeCast S128x1024 ((rsRM.access (rsR t p)).read (Elt F) f) shapeCasts_S1x128x1024_S128x1024 = sumAt m t.val (left c) p := hf
  have e : (rsRM.access (rsR t p)).read (Elt F) f = shapeCast S1x128x1024 (sumAt m t.val (left c) p) shapeCasts_S128x1024_S1x128x1024 := by
    rw [← e1, shapeCast_shapeCast]
  have e3 : Q (shapeCast S1x128x1024 (sumAt m t.val (left c) p) shapeCasts_S128x1024_S1x128x1024) ⊢ Q ((rsRM.access (rsR t p)).read (Elt F) f) := by
    rw [e]
  iapply e3
  iapply Hcont
  isplitl [Hg]; · iexact Hg
  unfold landed some'
  isplitl [Hw]; · iexists f; iexact Hw
  iexact Hz

/-! ## The first and the middle steps -/

/-- What a half's computation needs and leaves, all at block `(c + o) % 4` in slot `s`. -/
def tools (c : Dev nD) (o : Fin 4) (s : Fin 2) : sProp 𝕄 := iprop(qHeld m c ∗ wHeld m c ∗ filled m c o s ∗ attnAny c)

theorem wp_firstM (c e : Dev nD) (p : Fin 2) (he : e = right c) {n n' : ℕ} (hn : p.val = n) (hn' : n + 1 = n') {Q : PUnit → sProp 𝕄} :
    iprop(records m K ∗ tools m c 0 0 ∗ going c n ∗ some' (F := F) c (rsSW 0 p) fullShare)
      ⊢ iprop((iprop(tools m c 0 0 ∗ going (F := F) c n') -∗ Q ⟨⟩) -∗ Wp c (firstM c p e) Q) := by
  unfold firstM tools
  iintro ⟨#Hr, Ht, Hg, Hw⟩ Hcont
  simp only [wp_bind]
  iapply (wp_halfM m c 0 0 p) $$ Ht
  iintro Ht
  iapply (wp_passM m K c e 0 p _ rfl he (n := n) (by rw [← hn]; show 2 * 0 + p.val = p.val; omega) hn') $$ [Hg Hw]
  · isplitr; · iexact Hr
    isplitl [Hg] <;> iassumption
  iintro Hg
  iapply Hcont
  isplitl [Ht] <;> iassumption

theorem wp_midM (c e : Dev nD) (o : Fin 4) (s : Fin 2) (t t' : Fin 3) (p : Fin 2) (he : e = right c) (ht : t'.val = t.val + 1) (ho : o = stepOf t.val) {n n' : ℕ}
    (hn : 2 * t'.val + p.val = n) (hn' : n + 1 = n') {Q : PUnit → sProp 𝕄} :
    iprop(records m K ∗ tools m c o s ∗ going c n ∗ expecting c (.rs t p) ∗ some' (F := F) c (rsSW t' p) fullShare)
      ⊢ iprop((iprop(tools m c o s ∗ going (F := F) c n' ∗ landed c (.rs t p)) -∗ Q ⟨⟩) -∗ Wp c (midM c o s t t' p e) Q) := by
  unfold midM tools
  iintro ⟨#Hr, Ht, Hg, He, Hw⟩ Hcont
  simp only [wp_bind]
  iapply (wp_halfM m c o s p) $$ Ht
  iintro Ht
  iapply (wp_recvM m K c t p (n := n) (by omega)) $$ [Hg He]
  · isplitr; · iexact Hr
    isplitl [Hg] <;> iassumption
  iintro ⟨Hg, Hl⟩
  iapply (wp_passM m K c e t' p _ (by
      rw [addPart_eq, shapeCast_shapeCast, ht, ho]; rfl) he (n := n) hn hn') $$ [Hg Hw]
  · isplitr; · iexact Hr
    isplitl [Hg] <;> iassumption
  iintro Hg
  iapply Hcont
  isplitl [Ht]; · iexact Ht
  isplitl [Hg] <;> iassumption

/-! ## The result -/

/-- The result buffer, holding the finished sums on `A`. -/
def outI (c : Dev nD) (A : Finset S1024x1024.Idx) : sProp 𝕄 :=
  iprop(∃ f : outM.view.ty.Contents (Elt F), ⌜∀ i ∈ A, f i = outAt m i⌝ ∗ (outM.view.loc (c : Thread nD τ) ↦{fullShare} f))

theorem out_store (r : Rect S1024x1024) (f : outM.view.ty.Contents (Elt F)) (w : r.shape.Idx → Elt F .bf16) (hw : ∀ j, w j = outAt m (r.emb j)) (A : Finset S1024x1024.Idx)
    (hf : ∀ i ∈ A, f i = outAt m i) : ∀ i ∈ A ∪ r.set, (outM.access r).write (Elt F) f w Finset.univ i = outAt m i := by
  intro i hi
  by_cases hr : i ∈ r.set
  · rw [← r.map_emb_univ] at hr
    obtain ⟨j, -, rfl⟩ := Finset.mem_map.mp hr
    rw [← hw j]
    exact View.write_emb_of_mem (v := outM.access r) f w (Finset.mem_univ j)
  · rw [View.write_of_not_mem _ _ _ (by rw [View.setOn_univ, View.set_slice_whole]; exact hr)]
    rcases Finset.mem_union.mp hi with h | h
    · exact hf i h
    · exact absurd h hr

theorem outI_any (c : Dev nD) (f : outM.view.ty.Contents (Elt F)) : (outM.view.loc (c : Thread nD τ) ↦{fullShare} f : sProp 𝕄) ⊢ outI m c ∅ := by
  unfold outI
  iintro H
  iexists f
  isplitr; · ipureintro; exact fun i hi => absurd hi (Finset.notMem_empty i)
  iexact H

/-- Rows `256 * b, …` of the result are the finished sum of block `b`'s device. -/
theorem outAt_row (b : Fin 4) (p : Fin 2) (i : S128x1024.Idx) (k : S1024x1024.Idx) (h0 : (k 0).val = 256 * b.val + 128 * p.val + (i 0).val) (h1 : (k 1).val = (i 1).val) :
    outAt m k = sumAt m 3 (left b) p i := by
  have hi : (i 0).val < 128 := (i 0).isLt
  unfold outAt
  have e1 : (⟨(k 0).val / 256, Nat.div_lt_of_lt_mul (k 0).isLt⟩ : Fin 4) = b := Fin.ext (by show (k 0).val / 256 = b.val; omega)
  have e2 : (⟨(k 0).val % 256 / 128, Nat.div_lt_of_lt_mul (Nat.mod_lt _ (by decide))⟩ : Fin 2) = p := Fin.ext (by show (k 0).val % 256 / 128 = p.val; omega)
  refine (congrArg (fun b' : Fin 4 => sumAt m 3 (left b') _ _) e1).trans ((congrArg (fun p' : Fin 2 => sumAt m 3 (left b) p' _) e2).trans ?_)
  refine congrArg _ (funext fun a => ?_)
  match a with
  | 0 => exact Fin.ext (by show (k 0).val % 128 = (i 0).val; omega)
  | 1 => exact Fin.ext h1

/-! ## The last step -/

abbrev lastR (c : Dev nD) (p : Fin 2) : Rect S1024x1024 := Rect.unit (s := S1024x1024) (k0_off10 c (BitVec.ofNat 32 (128 * p.val))) S128x1024.size (k0_off10_inb c p)

theorem last_rows (c : Dev nD) (p : Fin 2) (j : S128x1024.Idx) : sumAt m 3 c p j = outAt m ((lastR c p).emb j) := by
  have h := outAt_row m (right c) p j ((lastR c p).emb j)
    (by
      rw [Rect.emb_apply]
      show (k0_off10 c (BitVec.ofNat 32 (128 * p.val))) 0 + 1 * (j 0).val = _
      rw [k0_off10_eq]
      show 256 * ((c.val + 1) % 4) + 128 * p.val + 1 * (j 0).val = 256 * ((c.val + 1) % 4) + 128 * p.val + (j 0).val
      omega)
    (by
      rw [Rect.emb_apply]
      show (k0_off10 c (BitVec.ofNat 32 (128 * p.val))) 1 + 1 * (j 1).val = _
      rw [k0_off10_eq]
      show 0 + 1 * (j 1).val = (j 1).val
      omega)
  rw [h, left_right]

theorem agSW_set (p : Fin 2) : (agSW p).view.set = (agSM.access (halfR p)).set := rfl

theorem wp_lastM (c e e' : Dev nD) (p : Fin 2) (he : e = right c) (he' : e' = left c) {n n' : ℕ} (hn : 6 + 2 * p.val = n) (hn' : n + 2 = n') (A : Finset S1024x1024.Idx)
    {Q : PUnit → sProp 𝕄} :
    iprop(records m K ∗ tools m c 1 1 ∗ going c n ∗ expecting c (.rs 2 p) ∗ some' (F := F) c (agSW p) fullShare ∗ outI m c A)
      ⊢ iprop((iprop(tools m c 1 1 ∗ going (F := F) c n' ∗ landed c (.rs 2 p) ∗ outI m c (A ∪ (lastR c p).set)) -∗ Q ⟨⟩) -∗ Wp c (lastM c p e e') Q) := by
  subst hn'
  unfold lastM tools outI some'
  iintro ⟨#Hr, Ht, Hg, He, ⟨%fs, Hw⟩, ⟨%fo, %hfo, Ho⟩⟩ Hcont
  simp only [wp_bind]
  iapply (wp_halfM m c 1 1 p) $$ Ht
  iintro Ht
  iapply (wp_recvM m K c 2 p (n := n) (by show 2 * 2 + p.val < n; omega)) $$ [Hg He]
  · isplitr; · iexact Hr
    isplitl [Hg] <;> iassumption
  iintro ⟨Hg, Hl⟩
  have e0 : addPart (shapeCast S1x128x1024 (sumAt m (2 : Fin 3).val (left c) p) shapeCasts_S128x1024_S1x128x1024) (part m c 1 p) = sumAt m 3 c p := by
    rw [addPart_eq, shapeCast_shapeCast]; rfl
  rw [e0]
  simp only [← wp_bind]
  simp only [Prog.lift, Prog.bind_op, Prog.bind_ret, Prog.pure_eq_ret]
  iapply (wp_load 𝒱₀ (c : Thread nD τ) none Set.univ (m := outM) (Finset.subset_univ _)) $$ Ho; iintro Ho
  iapply (wp_store 𝒱₀ (c : Thread nD τ) none Set.univ (m := outM) (r := lastR c p) (Finset.subset_univ _)) $$ Ho; iintro Ho
  iapply (wp_load_rect 𝒱₀ (c : Thread nD τ) none Set.univ (m := agSM) (r := halfR p) (S := (agSW p).view.set) (by rw [agSW_set])) $$ Hw; iintro Hw
  iapply (wp_store 𝒱₀ (c : Thread nD τ) none Set.univ (m := agSM) (r := halfR p) (S := (agSW p).view.set) (by rw [agSW_set, View.setOn_univ])) $$ Hw; iintro Hw
  have e1 : (agSW p).view.read (Elt F) ((agSM.access (halfR p)).write (Elt F) fs (shapeCast S128x1024 (sumAt m 3 c p) shapeCasts_S128x1024_S128x1024) Finset.univ) = sumAt m 3 c p := by
    rw [shapeCast_self]; exact View.read_write_univ _ _
  ihave Hw := (pointsTo_share (PosShare.mem_left_op_right fullShare)).1 $$ Hw
  icases Hw with ⟨Hwl, Hwr⟩
  simp only [wp_bind]
  iapply (wp_send m K c e (.agr p) he (α := PUnit) (n := n) hn) $$ [Hg Hwl]
  · isplitr; · iexact Hr
    isplitl [Hg]; · iexact Hg
    unfold owns
    iexists _
    isplitr
    · ipureintro; exact e1
    iexact Hwl
  iintro Hg
  iapply (wp_send m K c e' (.agl p) he' (α := PUnit) (n := n + 1) (by show 7 + 2 * p.val = n + 1; omega)) $$ [Hg Hwr]
  · isplitr; · iexact Hr
    isplitl [Hg]; · iexact Hg
    unfold owns
    iexists _
    isplitr
    · ipureintro; exact e1
    iexact Hwr
  iintro Hg
  iapply Hcont
  isplitl [Ht]; · iexact Ht
  isplitl [Hg]; · iexact Hg
  isplitl [Hl]; · iexact Hl
  iexists _
  isplitr
  · ipureintro; exact out_store m (lastR c p) fo (sumAt m 3 c p) (last_rows m c p) A hfo
  iexact Ho

end Cert.KernelIdeal.Gen
-- ==== Proof.Gather.lean ====
/-
  The gather: the finished blocks arrive, two halves are forwarded, the blocks are written to the result; and the waits for the sources
  of all the transfers.
-/
module

public import proofs.«01_k».proof.Proof.Pass

@[expose] public section

set_option maxRecDepth 16384

noncomputable section

namespace Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × Slot → ℕ)

/-! ## Shares -/

theorem owns_halves (c : Dev nD) {s : Shape} {e : EltTy} (w : Memref sig .tc .vmem s e) (X : s.Idx → Elt F e) :
    (owns (c : Thread nD τ) w fullShare X : sProp 𝕄) ⊢ iprop(owns (c : Thread nD τ) w fullShare.left X ∗ owns (c : Thread nD τ) w fullShare.right X) := by
  unfold owns
  iintro ⟨%f, %hf, H⟩
  ihave H := (pointsTo_share (PosShare.mem_left_op_right fullShare)).1 $$ H
  icases H with ⟨H, H'⟩
  isplitl [H]
  · iexists f
    isplitr; · ipureintro; exact hf
    iexact H
  · iexists f
    isplitr; · ipureintro; exact hf
    iexact H'

theorem some_halves (c : Dev nD) {s : Shape} {e : EltTy} (w : Memref sig .tc .vmem s e) :
    iprop(some' (F := F) c w fullShare.left ∗ some' (F := F) c w fullShare.right) ⊢ (some' (F := F) c w fullShare : sProp 𝕄) := by
  unfold some'
  iintro ⟨⟨%f, H⟩, ⟨%g, H'⟩⟩
  ihave %h := (pointsTo_agree (q₁ := fullShare.left) (q₂ := fullShare.right) (f := f) (g := g)) $$ [H H']
  · isplitl [H] <;> iassumption
  have hfg : ∀ i ∈ w.view.set, g i = f i := fun i hi => ((h i (Finset.mem_inter.mpr ⟨hi, hi⟩)).1).symm
  ihave H' := (Entails.of_eq (pointsTo_congr (f := g) (g := f) hfg)) $$ H'
  iexists f
  iapply (pointsTo_share (PosShare.mem_left_op_right fullShare)).2
  isplitl [H] <;> iassumption

/-! ## Two halves read as one block -/

/-- The halves one above the other. -/
def stack (X : Fin 2 → Vec F S128x1024 .bf16) : Vec F S256x1024 .bf16 := fun j =>
  X ⟨(j 0).val / 128, Nat.div_lt_of_lt_mul (j 0).isLt⟩ (fun | 0 => ⟨(j 0).val % 128, Nat.mod_lt _ (by decide)⟩ | 1 => j 1)

abbrev agwR (t : Fin 2) : Rect S2x256x1024 := Rect.unit (s := S2x256x1024) ![t.val, 0, 0] S1x256x1024.size (agw_inb t)
abbrev agR (t p : Fin 2) : Rect S2x256x1024 := Rect.unit (s := S2x256x1024) ![t.val, 128 * p.val, 0] S1x128x1024.size (ag_inb t p)
theorem shapeCasts_up : S256x1024.ShapeCasts S1x256x1024 := by decide
abbrev wholeR : Rect S256x1024 := Rect.unit (s := S256x1024) ![0, 0] S256x1024.size inb_S256x1024_S256x1024_0_0

theorem agRW_set (t p : Fin 2) : (agRW t p).view.set = (agR t p).set := (View.set_reshape _ _).trans (View.set_slice_whole (κ := .tc) cc0_scratch9 (agR t p))
theorem agLW_set (p : Fin 2) : (agLW p).view.set = (halfR p).set := View.set_slice_whole (κ := .tc) cc0_scratch10 (halfR p)

theorem agR_disjoint (t t' p p' : Fin 2) (h : (t, p) ≠ (t', p')) : Disjoint (agR t p).set (agR t' p').set := by
  by_cases ht : t.val = t'.val
  · have hp : p.val ≠ p'.val := fun e => h (Prod.ext (Fin.ext ht) (Fin.ext e))
    refine Rect.disjoint_of_separated _ _ (1 : Fin 3) ?_
    show (128 = 0 ∨ 128 * p.val + 1 * (128 - 1) < 128 * p'.val) ∨ (128 = 0 ∨ 128 * p'.val + 1 * (128 - 1) < 128 * p.val)
    omega
  · refine Rect.disjoint_of_separated _ _ (0 : Fin 3) ?_
    show (1 = 0 ∨ t.val + 1 * (1 - 1) < t'.val) ∨ (1 = 0 ∨ t'.val + 1 * (1 - 1) < t.val)
    omega

theorem halfR_disjoint (p p' : Fin 2) (h : p ≠ p') : Disjoint (halfR p).set (halfR p').set := by
  have hp : p.val ≠ p'.val := fun e => h (Fin.ext e)
  refine Rect.disjoint_of_separated _ _ (0 : Fin 2) ?_
  show (128 = 0 ∨ 128 * p.val + 1 * (128 - 1) < 128 * p'.val) ∨ (128 = 0 ∨ 128 * p'.val + 1 * (128 - 1) < 128 * p.val)
  omega

theorem halfR_cover : (Finset.univ : Finset S256x1024.Idx) ⊆ (halfR 0).set ∪ (halfR 1).set := by
  intro i _
  have h0 : (i 0).val < 256 := (i 0).isLt
  have h1 : (i 1).val < 1024 := (i 1).isLt
  rw [Finset.mem_union, LoadRect.mem_set, LoadRect.mem_set]
  by_cases h : (i 0).val < 128
  · left; intro a
    match a with
    | 0 => exact ⟨(i 0).val, h, by show (i 0).val = 128 * 0 + 1 * (i 0).val; omega⟩
    | 1 => exact ⟨(i 1).val, h1, by show (i 1).val = 0 + 1 * (i 1).val; omega⟩
  · right; intro a
    match a with
    | 0 => exact ⟨(i 0).val - 128, by show _ < 128; omega, by show (i 0).val = 128 * 1 + 1 * ((i 0).val - 128); omega⟩
    | 1 => exact ⟨(i 1).val, h1, by show (i 1).val = 0 + 1 * (i 1).val; omega⟩

theorem agwR_cover (t : Fin 2) : (agwR t).set ⊆ (agR t 0).set ∪ (agR t 1).set := by
  intro i hi
  rw [LoadRect.mem_set] at hi
  obtain ⟨j0, hj0, e0⟩ := hi 0
  obtain ⟨j1, hj1, e1⟩ := hi 1
  obtain ⟨j2, hj2, e2⟩ := hi 2
  replace hj1 : j1 < 256 := hj1
  replace e1 : (i 1).val = 0 + 1 * j1 := e1
  rw [Finset.mem_union, LoadRect.mem_set, LoadRect.mem_set]
  by_cases h : j1 < 128
  · left; intro a
    match a with
    | 0 => exact ⟨j0, hj0, e0⟩
    | 1 => exact ⟨j1, h, by show (i 1).val = 128 * 0 + 1 * j1; omega⟩
    | 2 => exact ⟨j2, hj2, e2⟩
  · right; intro a
    match a with
    | 0 => exact ⟨j0, hj0, e0⟩
    | 1 => exact ⟨j1 - 128, by show _ < 128; omega, by show (i 1).val = 128 * 1 + 1 * (j1 - 128); omega⟩
    | 2 => exact ⟨j2, hj2, e2⟩

/-- A block of the left buffer, whose halves read `X`. -/
theorem take_val (t : Fin 2) (f : agRM.view.ty.Contents (Elt F)) (X : Fin 2 → Vec F S128x1024 .bf16) (h : ∀ p, (agRW t p).view.read (Elt F) f = X p) :
    agRM.view.readAt (Elt F) (agwR t).toLoadRect f = shapeCast S1x256x1024 (stack X) shapeCasts_up := by
  have key : ∀ (a : Fin 256) (b : Fin 1024), agRM.view.readAt (Elt F) (agwR t).toLoadRect f (ix3 (0 : Fin 1) a b)
      = shapeCast S1x256x1024 (stack X) shapeCasts_up (ix3 (0 : Fin 1) a b) := by
    intro a b
    refine Eq.trans ?_ (shapeCast_ab_1ab_apply (a := 256) (b := 1024) (stack X) shapeCasts_up 0 a b).symm
    unfold stack
    rw [← h]
    have hix : (fun | 0 => ⟨(ix2 a b 0 : Fin 256).val % 128, Nat.mod_lt _ (by decide)⟩ | 1 => ix2 a b 1 : S128x1024.Idx)
        = ix2 (⟨a.val % 128, Nat.mod_lt _ (by decide)⟩ : Fin 128) b := funext fun x => by fin_cases x <;> rfl
    refine Eq.trans ?_ (congrArg _ hix.symm)
    have hd : a.val / 128 < 2 := Nat.div_lt_of_lt_mul a.isLt
    have hm : a.val % 128 < 128 := Nat.mod_lt _ (by decide)
    show _ = shapeCast S128x1024 ((agRM.access (agR t ⟨a.val / 128, hd⟩)).read (Elt F) f) shapeCasts_S1x128x1024_S128x1024 (ix2 (⟨a.val % 128, hm⟩ : Fin 128) b)
    refine Eq.trans ?_ (shapeCast_1ab_ab_apply (a := 128) (b := 1024) ((agRM.access (agR t ⟨a.val / 128, hd⟩)).read (Elt F) f) shapeCasts_S1x128x1024_S128x1024 ⟨a.val % 128, hm⟩ b).symm
    show agRM.view.read (Elt F) f ((agwR t).toLoadRect.idx _) = agRM.view.read (Elt F) f ((agR t _).emb _)
    congr 1
    funext x
    match x with
    | 0 => exact Fin.ext rfl
    | 1 => exact Fin.ext (by
        show 0 + 1 * a.val = 128 * (a.val / 128) + 1 * (a.val % 128)
        omega)
    | 2 => exact Fin.ext rfl
  funext j
  have hj : j = ix3 (0 : Fin 1) (j 1 : Fin 256) (j 2 : Fin 1024) := by
    funext a
    match a with
    | 0 => exact Fin.ext (by have : (j 0).val < 1 := (j 0).isLt; show (j 0).val = 0; omega)
    | 1 => rfl
    | 2 => rfl
  exact (congrArg _ hj).trans ((key _ _).trans (congrArg _ hj.symm))

theorem takeL_val (f : agLM.view.ty.Contents (Elt F)) (X : Fin 2 → Vec F S128x1024 .bf16) (h : ∀ p, (agLW p).view.read (Elt F) f = X p) :
    agLM.view.readAt (Elt F) wholeR.toLoadRect f = stack X := by
  funext j
  unfold stack
  rw [← h]
  show agLM.view.read (Elt F) f (wholeR.toLoadRect.idx _) = agLM.view.read (Elt F) f ((halfR _).emb _)
  congr 1
  funext a
  match a with
  | 0 => exact Fin.ext (by
      show 0 + 1 * (j 0).val = 128 * ((j 0).val / 128) + 1 * ((j 0).val % 128)
      omega)
  | 1 => exact Fin.ext rfl

/-- The two halves of a block as one piece of the buffer. -/
theorem join_ag (c : Dev nD) (t : Fin 2) (q : PosShare TreeShare) (X : Fin 2 → Vec F S128x1024 .bf16) :
    iprop(owns (c : Thread nD τ) (agRW t 0) q (X 0) ∗ owns (c : Thread nD τ) (agRW t 1) q (X 1))
      ⊢ (iprop(∃ f, ⌜∀ p, (agRW t p).view.read (Elt F) f = X p⌝ ∗ (agRM.view.loc (c : Thread nD τ) ↦[(agR t 0).set ∪ (agR t 1).set]{q} f)) : sProp 𝕄) := by
  unfold owns
  iintro ⟨⟨%f, %hf, H⟩, ⟨%g, %hg, H'⟩⟩
  rw [agRW_set, agRW_set]
  have hd : Disjoint (agR t 0).set (agR t 1).set := agR_disjoint t t 0 1 (by simp)
  iexists ((agR t 1).set.piecewise g f)
  isplitr
  · ipureintro
    intro p
    match p with
    | 0 =>
      refine (View.read_congr (g := f) fun i hi => ?_).trans hf
      rw [agRW_set] at hi
      exact Finset.piecewise_eq_of_notMem _ _ _ (Finset.disjoint_left.mp hd hi)
    | 1 =>
      refine (View.read_congr (g := g) fun i hi => ?_).trans hg
      rw [agRW_set] at hi
      exact Finset.piecewise_eq_of_mem _ _ _ hi
  iapply (pointsTo_join (ℓ := agRM.view.loc (c : Thread nD τ)) hd)
  isplitl [H] <;> iassumption

theorem join_agL (c : Dev nD) (q : PosShare TreeShare) (X : Fin 2 → Vec F S128x1024 .bf16) :
    iprop(owns (c : Thread nD τ) (agLW 0) q (X 0) ∗ owns (c : Thread nD τ) (agLW 1) q (X 1))
      ⊢ (iprop(∃ f, ⌜∀ p, (agLW p).view.read (Elt F) f = X p⌝ ∗ (agLM.view.loc (c : Thread nD τ) ↦[(halfR 0).set ∪ (halfR 1).set]{q} f)) : sProp 𝕄) := by
  unfold owns
  iintro ⟨⟨%f, %hf, H⟩, ⟨%g, %hg, H'⟩⟩
  rw [agLW_set, agLW_set]
  have hd : Disjoint (halfR 0).set (halfR 1).set := halfR_disjoint 0 1 (by decide)
  iexists ((halfR 1).set.piecewise g f)
  isplitr
  · ipureintro
    intro p
    match p with
    | 0 =>
      refine (View.read_congr (g := f) fun i hi => ?_).trans hf
      rw [agLW_set] at hi
      exact Finset.piecewise_eq_of_notMem _ _ _ (Finset.disjoint_left.mp hd hi)
    | 1 =>
      refine (View.read_congr (g := g) fun i hi => ?_).trans hg
      rw [agLW_set] at hi
      exact Finset.piecewise_eq_of_mem _ _ _ hi
  iapply (pointsTo_join (ℓ := agLM.view.loc (c : Thread nD τ)) hd)
  isplitl [H] <;> iassumption

theorem wp_takeM (c : Dev nD) (t : Fin 2) (q : PosShare TreeShare) (X : Fin 2 → Vec F S128x1024 .bf16) {Q : Vec F S1x256x1024 .bf16 → sProp 𝕄} :
    iprop(owns (c : Thread nD τ) (agRW t 0) q (X 0) ∗ owns (c : Thread nD τ) (agRW t 1) q (X 1))
      ⊢ iprop((iprop(some' (F := F) c (agRW t 0) q ∗ some' (F := F) c (agRW t 1) q) -∗ Q (shapeCast S1x256x1024 (stack X) shapeCasts_up))
          -∗ Wp c (takeM t) Q) := by
  refine (join_ag c t q X).trans ?_
  unfold takeM some'
  simp only [Prog.lift]
  iintro ⟨%f, %hf, H⟩ Hcont
  iapply (wp_load_rect 𝒱₀ (c : Thread nD τ) none Set.univ (m := agRM) (r := agwR t) (S := (agR t 0).set ∪ (agR t 1).set) (by
    rw [View.set_slice_whole]; exact agwR_cover t)) $$ H; iintro H
  iapply (wp_done c _ _)
  have e : (agRM.access (agwR t)).read (Elt F) f = _ := take_val t f X hf
  have e3 : Q (shapeCast S1x256x1024 (stack X) shapeCasts_up) ⊢ Q ((agRM.access (agwR t)).read (Elt F) f) := by rw [e]
  iapply e3
  iapply Hcont
  ihave H := (pointsTo_union (agR_disjoint t t 0 1 (by simp))).1 $$ H
  icases H with ⟨H, H'⟩
  rw [agRW_set, agRW_set]
  isplitl [H]
  · iexists f; iexact H
  · iexists f; iexact H'

theorem wp_takeLM (c : Dev nD) (q : PosShare TreeShare) (X : Fin 2 → Vec F S128x1024 .bf16) {Q : Vec F S256x1024 .bf16 → sProp 𝕄} :
    iprop(owns (c : Thread nD τ) (agLW 0) q (X 0) ∗ owns (c : Thread nD τ) (agLW 1) q (X 1))
      ⊢ iprop((iprop(some' (F := F) c (agLW 0) q ∗ some' (F := F) c (agLW 1) q) -∗ Q (stack X)) -∗ Wp c takeLM Q) := by
  refine (join_agL c q X).trans ?_
  unfold takeLM some'
  simp only [Prog.lift]
  iintro ⟨%f, %hf, H⟩ Hcont
  iapply (wp_load_rect 𝒱₀ (c : Thread nD τ) none Set.univ (m := agLM) (r := wholeR) (S := (halfR 0).set ∪ (halfR 1).set)
    ((Finset.subset_univ _).trans halfR_cover)) $$ H; iintro H
  iapply (wp_done c _ _)
  have e : (agLM.access wholeR).read (Elt F) f = _ := takeL_val f X hf
  have e3 : Q (stack X) ⊢ Q ((agLM.access wholeR).read (Elt F) f) := by rw [e]
  iapply e3
  iapply Hcont
  ihave H := (pointsTo_union (halfR_disjoint 0 1 (by decide))).1 $$ H
  icases H with ⟨H, H'⟩
  rw [agLW_set, agLW_set]
  isplitl [H]
  · iexists f; iexact H
  · iexists f; iexact H'

/-! ## A gathered block into the result -/

theorem stack_rows (off : Fin 2 → Nat) (inb : ∀ a, off a + S256x1024.size a ≤ S1024x1024.size a) (b : Fin 4) (ho : off = ![256 * b.val, 0]) (j : S256x1024.Idx) :
    stack (sumAt m 3 (left b)) j = outAt m ((Rect.unit (s := S1024x1024) off S256x1024.size inb).emb j) := by
  subst ho
  unfold stack
  refine (outAt_row m b _ _ _ ?_ ?_).symm
  · rw [Rect.emb_apply]
    show 256 * b.val + 1 * (j 0).val = 256 * b.val + 128 * ((j 0).val / 128) + (j 0).val % 128
    omega
  · rw [Rect.emb_apply]
    show 0 + 1 * (j 1).val = (j 1).val
    omega

theorem wp_putM (c : Dev nD) (off : Fin 2 → Nat) (inb : ∀ a, off a + S256x1024.size a ≤ S1024x1024.size a)
    (hp : (Rect.unit (s := S1024x1024) off S256x1024.size inb).PackedRows (EltTy.packing .bf16)) (v : Vec F S256x1024 .bf16)
    (b : Fin 4) (ho : off = ![256 * b.val, 0]) (hv : v = stack (sumAt m 3 (left b))) (A : Finset S1024x1024.Idx) {Q : PUnit → sProp 𝕄} :
    outI m c A ⊢ iprop((outI m c (A ∪ (Rect.unit (s := S1024x1024) off S256x1024.size inb).set) -∗ Q ⟨⟩) -∗ Wp c (putM off inb hp v) Q) := by
  unfold putM outI
  simp only [Prog.lift, Prog.bind_op, Prog.bind_ret, Prog.pure_eq_ret]
  iintro ⟨%f, %hf, H⟩ Hcont
  iapply (wp_load 𝒱₀ (c : Thread nD τ) none Set.univ (m := outM) (Finset.subset_univ _)) $$ H; iintro H
  iapply (wp_store 𝒱₀ (c : Thread nD τ) none Set.univ (m := outM) (r := Rect.unit (s := S1024x1024) off S256x1024.size inb) (Finset.subset_univ _)) $$ H; iintro H
  iapply (wp_done c _ _)
  iapply Hcont
  iexists _
  isplitr
  · ipureintro; exact out_store m _ f v (fun j => by rw [hv]; exact stack_rows m off inb b ho j) A hf
  iexact H

/-! ## The gather -/

def gathering (c : Dev nD) : sProp 𝕄 :=
  iprop(expecting (F := F) c (.agr 0) ∗ expecting (F := F) c (.agr 1) ∗ expecting (F := F) c (.agl 0) ∗ expecting (F := F) c (.agl 1) ∗ expecting (F := F) c .fwr ∗ expecting (F := F) c .fwl)

/-- The gather's landing windows, of some contents (of the forwarded halves what was not sent on), and its semaphores at rest. -/
def gathered (c : Dev nD) : sProp 𝕄 :=
  iprop(some' (F := F) c (agRW 0 0) fullShare.right ∗ some' (F := F) c (agRW 0 1) fullShare ∗ some' (F := F) c (agRW 1 0) fullShare ∗ some' (F := F) c (agRW 1 1) fullShare
    ∗ some' (F := F) c (agLW 0) fullShare ∗ some' (F := F) c (agLW 1) fullShare.right
    ∗ semVal (recvCell c (.agr 0)) 0 ∗ semVal (recvCell c (.agr 1)) 0 ∗ semVal (recvCell c (.agl 0)) 0 ∗ semVal (recvCell c (.agl 1)) 0
    ∗ semVal (recvCell c .fwr) 0 ∗ semVal (recvCell c .fwl) 0)

abbrev blockR (off : Fin 2 → Nat) (inb : ∀ a, off a + S256x1024.size a ≤ S1024x1024.size a) : Rect S1024x1024 := Rect.unit (s := S1024x1024) off S256x1024.size inb

theorem wp_gatherM (c : Dev nD) (A : Finset S1024x1024.Idx) {Q : PUnit → sProp 𝕄} :
    iprop(records m K ∗ going c 10 ∗ gathering c ∗ outI m c A)
      ⊢ iprop((iprop(going (F := F) c 12 ∗ gathered c
            ∗ outI m c (A ∪ (blockR (k0_off11 c) (k0_off11_inb c)).set ∪ (blockR (k0_off12 c) (k0_off12_inb c)).set ∪ (blockR (k0_off13 c) (k0_off13_inb c)).set)) -∗ Q ⟨⟩)
          -∗ Wp c (gatherM c) Q) := by
  unfold gatherM gathering gathered
  rw [dev13_eq, dev14_eq]
  iintro ⟨#Hr, Hg, ⟨Hr0, Hr1, Hl0, Hl1, Hfr, Hfl⟩, Ho⟩ Hcont
  simp only [wp_bind]
  iapply (wp_recv m K c (.agr 0) 10 (by decide) (dst_credit (.agr 0))) $$ [Hg Hr0]
  · isplitr; · iexact Hr
    isplitl [Hg] <;> iassumption
  iintro ⟨Hg, Hw, Hz1⟩
  ihave Hw := (owns_halves c _ _) $$ Hw
  icases Hw with ⟨Hwl, Hw00⟩
  iapply (wp_send m K c (right c) .fwr rfl (α := PUnit) (n := 10) rfl) $$ [Hg Hwl]
  · isplitr; · iexact Hr
    isplitl [Hg]; · iexact Hg
    iexact Hwl
  iintro Hg
  iapply (wp_recv m K c (.agl 1) 11 (by decide) (dst_credit (.agl 1))) $$ [Hg Hl1]
  · isplitr; · iexact Hr
    isplitl [Hg] <;> iassumption
  iintro ⟨Hg, Hw, Hz2⟩
  ihave Hw := (owns_halves c _ _) $$ Hw
  icases Hw with ⟨Hwl, HwL1⟩
  iapply (wp_send m K c (left c) .fwl rfl (α := PUnit) (n := 11) rfl) $$ [Hg Hwl]
  · isplitr; · iexact Hr
    isplitl [Hg]; · iexact Hg
    iexact Hwl
  iintro Hg
  iapply (wp_recv m K c (.agr 1) 12 (by decide) (dst_credit (.agr 1))) $$ [Hg Hr1]
  · isplitr; · iexact Hr
    isplitl [Hg] <;> iassumption
  iintro ⟨Hg, Hw, Hz3⟩
  ihave Hw := (owns_halves c _ _) $$ Hw
  icases Hw with ⟨Hw01l, Hw01⟩
  ihave Hw01l := (owns_some c _ _ _) $$ Hw01l
  iapply (wp_takeM c 0 fullShare.right (sumAt m 3 (left c))) $$ [Hw00 Hw01]
  · isplitl [Hw00]
    · iexact Hw00
    iexact Hw01
  iintro ⟨Hw00, Hw01⟩
  iapply (wp_putM m c (k0_off11 c) (k0_off11_inb c) (k0_off11_packedbf16 c) _ c (k0_off11_eq c) (shapeCast_shapeCast _ _ _) A) $$ Ho
  iintro Ho
  iapply (wp_recv m K c (.agl 0) 12 (by decide) (dst_credit (.agl 0))) $$ [Hg Hl0]
  · isplitr; · iexact Hr
    isplitl [Hg] <;> iassumption
  iintro ⟨Hg, Hw, Hz4⟩
  ihave Hw := (owns_halves c _ _) $$ Hw
  icases Hw with ⟨HwL0l, HwL0⟩
  ihave HwL0l := (owns_some c _ _ _) $$ HwL0l
  iapply (wp_takeLM c fullShare.right (sumAt m 3 (right c))) $$ [HwL0 HwL1]
  · isplitl [HwL0]
    · iexact HwL0
    iexact HwL1
  iintro ⟨HwL0, HwL1⟩
  iapply (wp_putM m c (k0_off12 c) (k0_off12_inb c) (k0_off12_packedbf16 c) _ (right (right c)) ((k0_off12_eq c).trans (by revert c; decide)) (by rw [left_right]) _) $$ Ho
  iintro Ho
  iapply (wp_recv m K c .fwr 12 (by decide) (dst_credit .fwr)) $$ [Hg Hfr]
  · isplitr; · iexact Hr
    isplitl [Hg] <;> iassumption
  iintro ⟨Hg, Hw10, Hz5⟩
  iapply (wp_recv m K c .fwl 12 (by decide) (dst_credit .fwl)) $$ [Hg Hfl]
  · isplitr; · iexact Hr
    isplitl [Hg] <;> iassumption
  iintro ⟨Hg, Hw11, Hz6⟩
  have hrr : right (right c) = left (left c) := by revert c; decide
  iapply (wp_takeM c 1 fullShare (sumAt m 3 (left (left c)))) $$ [Hw10 Hw11]
  · isplitl [Hw10]
    · iexact Hw10
    rw [← hrr]
    iexact Hw11
  iintro ⟨Hw10, Hw11⟩
  iapply (wp_putM m c (k0_off13 c) (k0_off13_inb c) (k0_off13_packedbf16 c) _ (left c) (k0_off13_eq c) (shapeCast_shapeCast _ _ _) _) $$ Ho
  iintro Ho
  iapply Hcont
  isplitl [Hg]; · iexact Hg
  isplitr [Ho]
  · isplitl [Hw00]; · iexact Hw00
    isplitl [Hw01 Hw01l]
    · iapply (some_halves c (agRW 0 1))
      isplitl [Hw01l]; · iexact Hw01l
      iexact Hw01
    isplitl [Hw10]; · iexact Hw10
    isplitl [Hw11]; · iexact Hw11
    isplitl [HwL0 HwL0l]
    · iapply (some_halves c (agLW 0))
      isplitl [HwL0l]; · iexact HwL0l
      iexact HwL0
    isplitl [HwL1]; · iexact HwL1
    isplitl [Hz1]; · iexact Hz1
    isplitl [Hz3]; · iexact Hz3
    isplitl [Hz4]; · iexact Hz4
    isplitl [Hz2]; · iexact Hz2
    isplitl [Hz5]; · iexact Hz5
    iexact Hz6
  iexact Ho

/-! ## The whole result -/

theorem rows_cover (c : Dev nD) : (Finset.univ : Finset S1024x1024.Idx)
    ⊆ ∅ ∪ (lastR c 0).set ∪ (lastR c 1).set ∪ (blockR (k0_off11 c) (k0_off11_inb c)).set ∪ (blockR (k0_off12 c) (k0_off12_inb c)).set ∪ (blockR (k0_off13 c) (k0_off13_inb c)).set := by
  intro i _
  have h0 : (i 0).val < 1024 := (i 0).isLt
  have h1 : (i 1).val < 1024 := (i 1).isLt
  have hc : c.val < 4 := c.isLt
  have key : ∀ (off : Fin 2 → Nat) (n : Nat) (inb : ∀ a, off a + ![n, 1024] a ≤ S1024x1024.size a) (o : Nat), off = ![o, 0] → o ≤ (i 0).val → (i 0).val < o + n →
      i ∈ (Rect.unit (s := S1024x1024) off ![n, 1024] inb).set := by
    intro off n inb o ho hl hu
    subst ho
    rw [LoadRect.mem_set]
    intro a
    match a with
    | 0 => exact ⟨(i 0).val - o, by show _ < n; omega, by show (i 0).val = o + 1 * ((i 0).val - o); omega⟩
    | 1 => exact ⟨(i 1).val, h1, by show (i 1).val = 0 + 1 * (i 1).val; omega⟩
  simp only [Finset.mem_union]
  have hb : (i 0).val / 256 = c.val ∨ (i 0).val / 256 = (c.val + 1) % 4 ∨ (i 0).val / 256 = (c.val + 2) % 4 ∨ (i 0).val / 256 = (c.val + 3) % 4 := by omega
  rcases hb with hb | hb | hb | hb
  · left; left; right; exact key _ 256 (k0_off11_inb c) _ (k0_off11_eq c) (by omega) (by omega)
  · left; left; left
    by_cases hh : (i 0).val % 256 < 128
    · left; right; exact key _ 128 (k0_off10_inb c 0) _ (k0_off10_eq c 0) (by show 256 * ((c.val + 1) % 4) + 128 * 0 ≤ _; omega) (by show _ < 256 * ((c.val + 1) % 4) + 128 * 0 + 128; omega)
    · right; exact key _ 128 (k0_off10_inb c 1) _ (k0_off10_eq c 1) (by show 256 * ((c.val + 1) % 4) + 128 * 1 ≤ _; omega) (by show _ < 256 * ((c.val + 1) % 4) + 128 * 1 + 128; omega)
  · left; right; exact key _ 256 (k0_off12_inb c) _ (k0_off12_eq c) (by omega) (by omega)
  · right; exact key _ 256 (k0_off13_inb c) _ (k0_off13_eq c) (by omega) (by omega)

theorem outI_full (c : Dev nD) (A : Finset S1024x1024.Idx) (hA : Finset.univ ⊆ A) : outI m c A ⊢ (outM.view.loc (c : Thread nD τ) ↦{fullShare} outAt m : sProp 𝕄) := by
  unfold outI
  iintro ⟨%f, %hf, H⟩
  have e : f = outAt m := funext fun i => hf i (hA (Finset.mem_univ i))
  subst e
  iexact H

/-! ## The sources back -/

/-- A transfer's source and its semaphore at rest. -/
def returned (c : Dev nD) (i : Tr) : sProp 𝕄 := iprop(some' (F := F) c i.src i.share ∗ semVal (sendCell c i) 0)

/-- The transfers one by one, in the order in which they start. -/
theorem bigSep_tr (Φ : Tr → sProp 𝕄) : bigSep Finset.univ Φ = iprop(Φ (.rs 0 0) ∗ Φ (.rs 0 1) ∗ Φ (.rs 1 0) ∗ Φ (.rs 1 1) ∗ Φ (.rs 2 0) ∗ Φ (.rs 2 1)
    ∗ Φ (.agr 0) ∗ Φ (.agl 0) ∗ Φ (.agr 1) ∗ Φ (.agl 1) ∗ Φ .fwr ∗ Φ .fwl) := by
  rw [show (Finset.univ : Finset Tr) = insert (.rs 0 0) (insert (.rs 0 1) (insert (.rs 1 0) (insert (.rs 1 1) (insert (.rs 2 0) (insert (.rs 2 1) (insert (.agr 0)
    (insert (.agl 0) (insert (.agr 1) (insert (.agl 1) (insert .fwr {.fwl})))))))))) by decide]
  rw [bigSep_cons (by decide), bigSep_cons (by decide), bigSep_cons (by decide), bigSep_cons (by decide), bigSep_cons (by decide), bigSep_cons (by decide),
    bigSep_cons (by decide), bigSep_cons (by decide), bigSep_cons (by decide), bigSep_cons (by decide), bigSep_cons (by decide), bigSep_singleton]

/-- One wait of the drain. -/
theorem wp_return (c : Dev nD) (i : Tr) {src dst : Memref sig .tc .vmem S128x1024 .bf16} {hs : src.view.WordExact} {hd : dst.view.WordExact}
    (hN : dst.view.dmaCredit = N) {Q : PUnit → sProp 𝕄} :
    iprop(records m K ∗ pending c i ∗ owing c 0) ⊢ iprop((iprop(returned c i ∗ owing c 0) -∗ Q ⟨⟩) -∗ Wp c (waitM i.sS src dst hs hd) Q) := by
  iintro H Hk
  iapply (wp_sent m K c i hN) $$ H
  iintro ⟨Hw, Hz, HO⟩
  iapply Hk
  unfold returned
  isplitl [Hw Hz]
  · isplitl [Hw] <;> iassumption
  iexact HO

theorem wp_drainM (c : Dev nD) {Q : PUnit → sProp 𝕄} :
    iprop(records m K ∗ going c 12) ⊢ iprop((iprop(bigSep Finset.univ (returned (F := F) c) ∗ owing c 0) -∗ Q ⟨⟩) -∗ Wp c drainM Q) := by
  unfold going drainM
  rw [show (Finset.univ.filter fun i : Tr => i.ix < 12) = Finset.univ by decide, dues_end, bigSep_tr, bigSep_tr]
  iintro ⟨#Hr, ⟨-, ⟨H0, H1, H2, H3, H4, H5, H6, H7, H8, H9, H10, H11⟩, HO⟩⟩ Hk
  simp only [wp_bind]
  iapply (wp_return m K c (.rs 0 0) (src_credit (.rs 0 0))) $$ [H0 HO]
  · isplitr; · iexact Hr
    isplitl [H0] <;> iassumption
  iintro ⟨H0, HO⟩
  iapply (wp_return m K c (.rs 0 1) (src_credit (.rs 0 1))) $$ [H1 HO]
  · isplitr; · iexact Hr
    isplitl [H1] <;> iassumption
  iintro ⟨H1, HO⟩
  iapply (wp_return m K c (.rs 1 0) (src_credit (.rs 1 0))) $$ [H2 HO]
  · isplitr; · iexact Hr
    isplitl [H2] <;> iassumption
  iintro ⟨H2, HO⟩
  iapply (wp_return m K c (.rs 1 1) (src_credit (.rs 1 1))) $$ [H3 HO]
  · isplitr; · iexact Hr
    isplitl [H3] <;> iassumption
  iintro ⟨H3, HO⟩
  iapply (wp_return m K c (.rs 2 0) (src_credit (.rs 2 0))) $$ [H4 HO]
  · isplitr; · iexact Hr
    isplitl [H4] <;> iassumption
  iintro ⟨H4, HO⟩
  iapply (wp_return m K c (.rs 2 1) (src_credit (.rs 2 1))) $$ [H5 HO]
  · isplitr; · iexact Hr
    isplitl [H5] <;> iassumption
  iintro ⟨H5, HO⟩
  iapply (wp_return m K c (.agr 0) (src_credit (.agr 0))) $$ [H6 HO]
  · isplitr; · iexact Hr
    isplitl [H6] <;> iassumption
  iintro ⟨H6, HO⟩
  iapply (wp_return m K c (.agl 0) (src_credit (.agl 0))) $$ [H7 HO]
  · isplitr; · iexact Hr
    isplitl [H7] <;> iassumption
  iintro ⟨H7, HO⟩
  iapply (wp_return m K c (.agr 1) (src_credit (.agr 1))) $$ [H8 HO]
  · isplitr; · iexact Hr
    isplitl [H8] <;> iassumption
  iintro ⟨H8, HO⟩
  iapply (wp_return m K c (.agl 1) (src_credit (.agl 1))) $$ [H9 HO]
  · isplitr; · iexact Hr
    isplitl [H9] <;> iassumption
  iintro ⟨H9, HO⟩
  iapply (wp_return m K c .fwr (src_credit .fwr)) $$ [H10 HO]
  · isplitr; · iexact Hr
    isplitl [H10] <;> iassumption
  iintro ⟨H10, HO⟩
  iapply (wp_return m K c .fwl (src_credit .fwl)) $$ [H11 HO]
  · isplitr; · iexact Hr
    isplitl [H11] <;> iassumption
  iintro ⟨H11, HO⟩
  iapply Hk
  isplitr [HO]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact HO

end Cert.KernelIdeal.Gen
-- ==== Proof.Cuts.lean ====
/-
  The scratch buffers cut into the windows the kernel uses, and put together again.
-/
module

public import proofs.«01_k».proof.Proof.Gather

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## A buffer and its pieces -/

section Pieces
variable (c : Dev nD) (b : Ref sig .tc) {B : Type} [Fintype B] [DecidableEq B] (I : B → Finset (Idx ((c : Thread nD τ).loc b)))

def pieces : sProp 𝕄 := bigSep Finset.univ fun i => iprop(∃ f, (c : Thread nD τ).loc b ↦[I i]{fullShare} f)
def over : sProp 𝕄 := iprop(∃ f, (c : Thread nD τ).loc b ↦[Ring.restOf I]{fullShare} f)

theorem cut (hd : ∀ i j, i ≠ j → Disjoint (I i) (I j)) : anyBuf (F := F) c b ⊢ iprop(pieces c b I ∗ over c b I) := Ring.fam_split_ex I hd
include m in
theorem join (hd : ∀ i j, i ≠ j → Disjoint (I i) (I j)) : iprop(pieces c b I ∗ over c b I) ⊢ anyBuf (F := F) c b :=
  Ring.fam_join I hd (m ((c : Thread nD τ).loc b))

end Pieces

/-! ## The families -/

section Families
variable (c : Dev nD)

abbrev kbI : Fin 2 × Fin 8 → Finset (Idx ((c : Thread nD τ).loc cc0_scratch1)) := fun x => (kbW x.1 x.2).view.set
abbrev vbI : Fin 2 × Fin 8 → Finset (Idx ((c : Thread nD τ).loc cc0_scratch2)) := fun x => (vbW x.1 x.2).view.set
abbrev sI : Fin 3 × Fin 2 → Finset (Idx ((c : Thread nD τ).loc cc0_scratch6)) := fun x => (rsSW x.1 x.2).view.set
abbrev rI : Fin 3 × Fin 2 → Finset (Idx ((c : Thread nD τ).loc cc0_scratch7)) := fun x => (rsRW x.1 x.2).view.set
abbrev gsI : Fin 2 → Finset (Idx ((c : Thread nD τ).loc cc0_scratch8)) := fun p => (agSW p).view.set
abbrev grI : Fin 2 × Fin 2 → Finset (Idx ((c : Thread nD τ).loc cc0_scratch9)) := fun x => (agRW x.1 x.2).view.set
abbrev glI : Fin 2 → Finset (Idx ((c : Thread nD τ).loc cc0_scratch10)) := fun p => (agLW p).view.set

abbrev kvR (s : Fin 2) (h : Fin 8) : Rect S2x8x1024x128 := Rect.unit (s := S2x8x1024x128) ![s.val, h.val, 0, 0] S1x1x1024x128.size (kv_inb s h)

theorem kvR_disjoint (i j : Fin 2 × Fin 8) (h : i ≠ j) : Disjoint (kvR i.1 i.2).set (kvR j.1 j.2).set := by
  by_cases hs : i.1.val = j.1.val
  · have hp : i.2.val ≠ j.2.val := fun e => h (Prod.ext (Fin.ext hs) (Fin.ext e))
    refine Rect.disjoint_of_separated _ _ (1 : Fin 4) ?_
    show (1 = 0 ∨ i.2.val + 1 * (1 - 1) < j.2.val) ∨ (1 = 0 ∨ j.2.val + 1 * (1 - 1) < i.2.val)
    omega
  · refine Rect.disjoint_of_separated _ _ (0 : Fin 4) ?_
    show (1 = 0 ∨ i.1.val + 1 * (1 - 1) < j.1.val) ∨ (1 = 0 ∨ j.1.val + 1 * (1 - 1) < i.1.val)
    omega

theorem rsR_disjoint (i j : Fin 3 × Fin 2) (h : i ≠ j) : Disjoint (rsR i.1 i.2).set (rsR j.1 j.2).set := by
  by_cases ht : i.1.val = j.1.val
  · have hp : i.2.val ≠ j.2.val := fun e => h (Prod.ext (Fin.ext ht) (Fin.ext e))
    refine Rect.disjoint_of_separated _ _ (1 : Fin 3) ?_
    show (128 = 0 ∨ 128 * i.2.val + 1 * (128 - 1) < 128 * j.2.val) ∨ (128 = 0 ∨ 128 * j.2.val + 1 * (128 - 1) < 128 * i.2.val)
    omega
  · refine Rect.disjoint_of_separated _ _ (0 : Fin 3) ?_
    show (1 = 0 ∨ i.1.val + 1 * (1 - 1) < j.1.val) ∨ (1 = 0 ∨ j.1.val + 1 * (1 - 1) < i.1.val)
    omega

theorem kbI_disjoint (i j : Fin 2 × Fin 8) (h : i ≠ j) : Disjoint (kbI c i) (kbI c j) := by
  have e (x : Fin 2 × Fin 8) : kbI c x = (kvR x.1 x.2).set := (View.set_reshape _ _).trans (View.set_slice_whole (κ := .tc) cc0_scratch1 (kvR x.1 x.2))
  rw [e, e]; exact kvR_disjoint i j h
theorem vbI_disjoint (i j : Fin 2 × Fin 8) (h : i ≠ j) : Disjoint (vbI c i) (vbI c j) := by
  have e (x : Fin 2 × Fin 8) : vbI c x = (kvR x.1 x.2).set := (View.set_reshape _ _).trans (View.set_slice_whole (κ := .tc) cc0_scratch2 (kvR x.1 x.2))
  rw [e, e]; exact kvR_disjoint i j h
theorem sI_disjoint (i j : Fin 3 × Fin 2) (h : i ≠ j) : Disjoint (sI c i) (sI c j) := by
  have e (x : Fin 3 × Fin 2) : sI c x = (rsR x.1 x.2).set := (View.set_reshape _ _).trans (View.set_slice_whole (κ := .tc) cc0_scratch6 (rsR x.1 x.2))
  rw [e, e]; exact rsR_disjoint i j h
theorem rI_disjoint (i j : Fin 3 × Fin 2) (h : i ≠ j) : Disjoint (rI c i) (rI c j) := by
  have e (x : Fin 3 × Fin 2) : rI c x = (rsR x.1 x.2).set := (View.set_reshape _ _).trans (View.set_slice_whole (κ := .tc) cc0_scratch7 (rsR x.1 x.2))
  rw [e, e]; exact rsR_disjoint i j h
theorem gsI_disjoint (i j : Fin 2) (h : i ≠ j) : Disjoint (gsI c i) (gsI c j) := by
  have e (x : Fin 2) : gsI c x = (halfR x).set := View.set_slice_whole (κ := .tc) cc0_scratch8 (halfR x)
  rw [e, e]; exact halfR_disjoint i j h
theorem grI_disjoint (i j : Fin 2 × Fin 2) (h : i ≠ j) : Disjoint (grI c i) (grI c j) := by
  have e (x : Fin 2 × Fin 2) : grI c x = (agR x.1 x.2).set := agRW_set x.1 x.2
  rw [e, e]; exact agR_disjoint _ _ _ _ h
theorem glI_disjoint (i j : Fin 2) (h : i ≠ j) : Disjoint (glI c i) (glI c j) := by
  have e (x : Fin 2) : glI c x = (halfR x).set := agLW_set x
  rw [e, e]; exact halfR_disjoint i j h

theorem bigSep_three (Φ : Fin 3 → sProp 𝕄) : bigSep Finset.univ Φ = iprop(Φ 0 ∗ Φ 1 ∗ Φ 2) := by
  rw [show (Finset.univ : Finset (Fin 3)) = insert 0 (insert 1 {2}) by decide, bigSep_cons (by decide), bigSep_cons (by decide), bigSep_singleton]

theorem kb_pieces : pieces (F := F) c cc0_scratch1 (kbI c)
    = iprop(bigSep Finset.univ (fun h : Fin 8 => some' (F := F) c (kbW 0 h) fullShare) ∗ bigSep Finset.univ (fun h : Fin 8 => some' (F := F) c (kbW 1 h) fullShare)) := by
  unfold pieces; rw [bigSep_univ_prod, bigSep_univ_two]; rfl
theorem vb_pieces : pieces (F := F) c cc0_scratch2 (vbI c)
    = iprop(bigSep Finset.univ (fun h : Fin 8 => some' (F := F) c (vbW 0 h) fullShare) ∗ bigSep Finset.univ (fun h : Fin 8 => some' (F := F) c (vbW 1 h) fullShare)) := by
  unfold pieces; rw [bigSep_univ_prod, bigSep_univ_two]; rfl
theorem s_pieces : pieces (F := F) c cc0_scratch6 (sI c)
    = iprop((some' (F := F) c (rsSW 0 0) fullShare ∗ some' (F := F) c (rsSW 0 1) fullShare) ∗ (some' (F := F) c (rsSW 1 0) fullShare ∗ some' (F := F) c (rsSW 1 1) fullShare)
        ∗ (some' (F := F) c (rsSW 2 0) fullShare ∗ some' (F := F) c (rsSW 2 1) fullShare)) := by
  unfold pieces; rw [bigSep_univ_prod, bigSep_three, bigSep_univ_two, bigSep_univ_two, bigSep_univ_two]; rfl
theorem r_pieces : pieces (F := F) c cc0_scratch7 (rI c)
    = iprop((some' (F := F) c (rsRW 0 0) fullShare ∗ some' (F := F) c (rsRW 0 1) fullShare) ∗ (some' (F := F) c (rsRW 1 0) fullShare ∗ some' (F := F) c (rsRW 1 1) fullShare)
        ∗ (some' (F := F) c (rsRW 2 0) fullShare ∗ some' (F := F) c (rsRW 2 1) fullShare)) := by
  unfold pieces; rw [bigSep_univ_prod, bigSep_three, bigSep_univ_two, bigSep_univ_two, bigSep_univ_two]; rfl
theorem gs_pieces : pieces (F := F) c cc0_scratch8 (gsI c) = iprop(some' (F := F) c (agSW 0) fullShare ∗ some' (F := F) c (agSW 1) fullShare) := by
  unfold pieces; rw [bigSep_univ_two]; rfl
theorem gr_pieces : pieces (F := F) c cc0_scratch9 (grI c)
    = iprop((some' (F := F) c (agRW 0 0) fullShare ∗ some' (F := F) c (agRW 0 1) fullShare) ∗ (some' (F := F) c (agRW 1 0) fullShare ∗ some' (F := F) c (agRW 1 1) fullShare)) := by
  unfold pieces; rw [bigSep_univ_prod, bigSep_univ_two, bigSep_univ_two, bigSep_univ_two]; rfl
theorem gl_pieces : pieces (F := F) c cc0_scratch10 (glI c) = iprop(some' (F := F) c (agLW 0) fullShare ∗ some' (F := F) c (agLW 1) fullShare) := by
  unfold pieces; rw [bigSep_univ_two]; rfl

/-! ## All the windows at once -/

/-- The cut buffers. -/
def cutBufs : sProp 𝕄 :=
  iprop(anyBuf (F := F) c cc0_scratch1 ∗ anyBuf (F := F) c cc0_scratch2 ∗ anyBuf (F := F) c cc0_scratch6 ∗ anyBuf (F := F) c cc0_scratch7
    ∗ anyBuf (F := F) c cc0_scratch8 ∗ anyBuf (F := F) c cc0_scratch9 ∗ anyBuf (F := F) c cc0_scratch10)
/-- What no window takes. -/
def spare : sProp 𝕄 :=
  iprop(over (F := F) c cc0_scratch1 (kbI c) ∗ over (F := F) c cc0_scratch2 (vbI c) ∗ over (F := F) c cc0_scratch6 (sI c) ∗ over (F := F) c cc0_scratch7 (rI c)
    ∗ over (F := F) c cc0_scratch8 (gsI c) ∗ over (F := F) c cc0_scratch9 (grI c) ∗ over (F := F) c cc0_scratch10 (glI c))
/-- The windows the sums leave from. -/
def sources : sProp 𝕄 :=
  iprop((some' (F := F) c (rsSW 0 0) fullShare ∗ some' (F := F) c (rsSW 0 1) fullShare) ∗ (some' (F := F) c (rsSW 1 0) fullShare ∗ some' (F := F) c (rsSW 1 1) fullShare)
    ∗ (some' (F := F) c (rsSW 2 0) fullShare ∗ some' (F := F) c (rsSW 2 1) fullShare) ∗ (some' (F := F) c (agSW 0) fullShare ∗ some' (F := F) c (agSW 1) fullShare))

theorem slot_list : bigSep Finset.univ (fun i : Tr => slot (F := F) c i)
    = iprop(some' (F := F) c (rsRW 0 0) fullShare ∗ some' (F := F) c (rsRW 0 1) fullShare ∗ some' (F := F) c (rsRW 1 0) fullShare ∗ some' (F := F) c (rsRW 1 1) fullShare
        ∗ some' (F := F) c (rsRW 2 0) fullShare ∗ some' (F := F) c (rsRW 2 1) fullShare ∗ some' (F := F) c (agRW 0 0) fullShare ∗ some' (F := F) c (agLW 0) fullShare
        ∗ some' (F := F) c (agRW 0 1) fullShare ∗ some' (F := F) c (agLW 1) fullShare ∗ some' (F := F) c (agRW 1 0) fullShare ∗ some' (F := F) c (agRW 1 1) fullShare) := by
  rw [bigSep_tr]; rfl

theorem cut_all : cutBufs (F := F) c ⊢ iprop(slots c 0 ∗ slots c 1 ∗ sources c ∗ bigSep Finset.univ (fun i : Tr => slot (F := F) c i) ∗ spare c) := by
  unfold cutBufs
  iintro ⟨H1, H2, H6, H7, H8, H9, H10⟩
  ihave H1 := (cut c cc0_scratch1 (kbI c) (kbI_disjoint c)) $$ H1
  ihave H2 := (cut c cc0_scratch2 (vbI c) (vbI_disjoint c)) $$ H2
  ihave H6 := (cut c cc0_scratch6 (sI c) (sI_disjoint c)) $$ H6
  ihave H7 := (cut c cc0_scratch7 (rI c) (rI_disjoint c)) $$ H7
  ihave H8 := (cut c cc0_scratch8 (gsI c) (gsI_disjoint c)) $$ H8
  ihave H9 := (cut c cc0_scratch9 (grI c) (grI_disjoint c)) $$ H9
  ihave H10 := (cut c cc0_scratch10 (glI c) (glI_disjoint c)) $$ H10
  icases H1 with ⟨H1, E1⟩
  icases H2 with ⟨H2, E2⟩
  icases H6 with ⟨H6, E6⟩
  icases H7 with ⟨H7, E7⟩
  icases H8 with ⟨H8, E8⟩
  icases H9 with ⟨H9, E9⟩
  icases H10 with ⟨H10, E10⟩
  ihave H1 := (Entails.of_eq (kb_pieces c)) $$ H1
  ihave H2 := (Entails.of_eq (vb_pieces c)) $$ H2
  ihave H6 := (Entails.of_eq (s_pieces c)) $$ H6
  ihave H7 := (Entails.of_eq (r_pieces c)) $$ H7
  ihave H8 := (Entails.of_eq (gs_pieces c)) $$ H8
  ihave H9 := (Entails.of_eq (gr_pieces c)) $$ H9
  ihave H10 := (Entails.of_eq (gl_pieces c)) $$ H10
  icases H1 with ⟨K0, K1⟩
  icases H2 with ⟨V0, V1⟩
  icases H6 with ⟨S0, S1, S2⟩
  icases H7 with ⟨⟨R00, R01⟩, ⟨R10, R11⟩, ⟨R20, R21⟩⟩
  icases H9 with ⟨⟨A00, A01⟩, ⟨A10, A11⟩⟩
  icases H10 with ⟨L0, L1⟩
  isplitl [K0 V0]
  · unfold slots; isplitl [K0] <;> iassumption
  isplitl [K1 V1]
  · unfold slots; isplitl [K1] <;> iassumption
  isplitl [S0 S1 S2 H8]
  · unfold sources
    isplitl [S0]; · iexact S0
    isplitl [S1]; · iexact S1
    isplitl [S2] <;> iassumption
  isplitr [E1 E2 E6 E7 E8 E9 E10]
  · iapply (Entails.of_eq (slot_list c).symm)
    isplitl [R00]; · iexact R00
    isplitl [R01]; · iexact R01
    isplitl [R10]; · iexact R10
    isplitl [R11]; · iexact R11
    isplitl [R20]; · iexact R20
    isplitl [R21]; · iexact R21
    isplitl [A00]; · iexact A00
    isplitl [L0]; · iexact L0
    isplitl [A01]; · iexact A01
    isplitl [L1]; · iexact L1
    isplitl [A10]; · iexact A10
    iexact A11
  unfold spare
  isplitl [E1]; · iexact E1
  isplitl [E2]; · iexact E2
  isplitl [E6]; · iexact E6
  isplitl [E7]; · iexact E7
  isplitl [E8]; · iexact E8
  isplitl [E9] <;> iassumption

/-! ## The windows back -/

/-- The semaphores of the transfers, at rest. -/
def rest (c : Dev nD) : sProp 𝕄 :=
  iprop((bigSep Finset.univ fun i : Tr => (semVal (sendCell c i) 0 : sProp 𝕄)) ∗ bigSep Finset.univ fun i : Tr => (semVal (recvCell c i) 0 : sProp 𝕄))

/-- The landings of the sums. -/
def landings (c : Dev nD) : sProp 𝕄 :=
  iprop(landed (F := F) c (.rs 0 0) ∗ landed (F := F) c (.rs 0 1) ∗ landed (F := F) c (.rs 1 0) ∗ landed (F := F) c (.rs 1 1) ∗ landed (F := F) c (.rs 2 0) ∗ landed (F := F) c (.rs 2 1))

include m in
theorem join_all : iprop(slots (F := F) c 0 ∗ slots (F := F) c 1 ∗ landings c ∗ gathered c ∗ bigSep Finset.univ (returned (F := F) c) ∗ spare c) ⊢ iprop(cutBufs (F := F) c ∗ rest c) := by
  unfold slots landings landed gathered spare
  iintro ⟨⟨K0, V0⟩, ⟨K1, V1⟩, ⟨⟨R00, Z00⟩, ⟨R01, Z01⟩, ⟨R10, Z10⟩, ⟨R11, Z11⟩, ⟨R20, Z20⟩, ⟨R21, Z21⟩⟩,
    ⟨A00, A01, A10, A11, L0, L1, Y0, Y1, X0, X1, Yf, Xf⟩, HT, ⟨E1, E2, E6, E7, E8, E9, E10⟩⟩
  ihave HT := (Entails.of_eq (show bigSep Finset.univ (returned (F := F) c)
      = iprop(bigSep Finset.univ (fun i : Tr => some' (F := F) c i.src i.share) ∗ bigSep Finset.univ (fun i : Tr => (semVal (sendCell c i) 0 : sProp 𝕄))) by
    rw [← bigSep_both]; rfl)) $$ HT
  icases HT with ⟨HT, HZ⟩
  ihave HT := (Entails.of_eq (bigSep_tr (fun i : Tr => some' (F := F) c i.src i.share))) $$ HT
  icases HT with ⟨S00, S01, S10, S11, S20, S21, G0, G0', G1, G1', F1, F2⟩
  ihave G0 := (some_halves (F := F) c (agSW 0)) $$ [G0 G0']
  · isplitl [G0]; · iexact G0
    iexact G0'
  ihave G1 := (some_halves (F := F) c (agSW 1)) $$ [G1 G1']
  · isplitl [G1]; · iexact G1
    iexact G1'
  ihave A00 := (some_halves (F := F) c (agRW 0 0)) $$ [F1 A00]
  · isplitl [F1]; · iexact F1
    iexact A00
  ihave L1 := (some_halves (F := F) c (agLW 1)) $$ [F2 L1]
  · isplitl [F2]; · iexact F2
    iexact L1
  isplitr [Z00 Z01 Z10 Z11 Z20 Z21 Y0 Y1 X0 X1 Yf Xf HZ]
  · unfold cutBufs
    isplitl [K0 K1 E1]
    · iapply (join m c cc0_scratch1 (kbI c) (kbI_disjoint c))
      isplitl [K0 K1]
      · iapply (Entails.of_eq (kb_pieces c).symm); isplitl [K0] <;> iassumption
      iexact E1
    isplitl [V0 V1 E2]
    · iapply (join m c cc0_scratch2 (vbI c) (vbI_disjoint c))
      isplitl [V0 V1]
      · iapply (Entails.of_eq (vb_pieces c).symm); isplitl [V0] <;> iassumption
      iexact E2
    isplitl [S00 S01 S10 S11 S20 S21 E6]
    · iapply (join m c cc0_scratch6 (sI c) (sI_disjoint c))
      isplitl [S00 S01 S10 S11 S20 S21]
      · iapply (Entails.of_eq (s_pieces c).symm)
        isplitl [S00 S01]
        · isplitl [S00]; · iexact S00
          iexact S01
        isplitl [S10 S11]
        · isplitl [S10]; · iexact S10
          iexact S11
        isplitl [S20]; · iexact S20
        iexact S21
      iexact E6
    isplitl [R00 R01 R10 R11 R20 R21 E7]
    · iapply (join m c cc0_scratch7 (rI c) (rI_disjoint c))
      isplitl [R00 R01 R10 R11 R20 R21]
      · iapply (Entails.of_eq (r_pieces c).symm)
        isplitl [R00 R01]
        · isplitl [R00]; · iexact R00
          iexact R01
        isplitl [R10 R11]
        · isplitl [R10]; · iexact R10
          iexact R11
        isplitl [R20]; · iexact R20
        iexact R21
      iexact E7
    isplitl [G0 G1 E8]
    · iapply (join m c cc0_scratch8 (gsI c) (gsI_disjoint c))
      isplitl [G0 G1]
      · iapply (Entails.of_eq (gs_pieces c).symm); isplitl [G0] <;> iassumption
      iexact E8
    isplitl [A00 A01 A10 A11 E9]
    · iapply (join m c cc0_scratch9 (grI c) (grI_disjoint c))
      isplitl [A00 A01 A10 A11]
      · iapply (Entails.of_eq (gr_pieces c).symm)
        isplitl [A00 A01]
        · isplitl [A00] <;> iassumption
        isplitl [A10] <;> iassumption
      iexact E9
    iapply (join m c cc0_scratch10 (glI c) (glI_disjoint c))
    isplitl [L0 L1]
    · iapply (Entails.of_eq (gl_pieces c).symm); isplitl [L0] <;> iassumption
    iexact E10
  unfold rest
  isplitl [HZ]; · iexact HZ
  iapply (Entails.of_eq (bigSep_tr (fun i : Tr => (semVal (recvCell c i) 0 : sProp 𝕄))).symm)
  isplitl [Z00]; · iexact Z00
  isplitl [Z01]; · iexact Z01
  isplitl [Z10]; · iexact Z10
  isplitl [Z11]; · iexact Z11
  isplitl [Z20]; · iexact Z20
  isplitl [Z21]; · iexact Z21
  isplitl [Y0]; · iexact Y0
  isplitl [X0]; · iexact X0
  isplitl [Y1]; · iexact Y1
  isplitl [X1]; · iexact X1
  isplitl [Yf]; · iexact Yf
  iexact Xf

end Families

end Cert.KernelIdeal.Gen
-- ==== Proof.ProgEq.lean ====
/-
  The printed body is the short program.
-/
module

public import proofs.«01_k».proof.Proof.Prog

@[expose] public section

set_option maxRecDepth 65536

noncomputable section

namespace Cert.KernelIdeal.Gen

open Idealize.ShloMosaic Idealize.ShloMosaic.TcCoe Idealize.SL.Sem

variable {F : FTy → Type} [FloatOps F]

set_option maxHeartbeats 0 in
/-- What the pipeline runs at its one step. -/
theorem body_eq (t : Fin cfg0.N) : bodyAt0 (F := F) t = (.op .deviceId bodyM) := by
  unfold bodyAt0
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, k0_part82_eq_skeleton, k0_part82_skel, k0_part83_eq_skeleton, k0_part83_skel, k0_part84_eq_skeleton, k0_part84_skel, k0_part85_eq_skeleton, k0_part85_skel, k0_part86_eq_skeleton, k0_part86_skel, k0_part87_eq_skeleton, k0_part87_skel, k0_part88_eq_skeleton, k0_part88_skel, k0_part89_eq_skeleton, k0_part89_skel, k0_part90_eq_skeleton, k0_part90_skel, k0_part91_eq_skeleton, k0_part91_skel, k0_part92_eq_skeleton, k0_part92_skel, k0_part93_eq_skeleton, k0_part93_skel]
  simp only [semSignalWord, semWaitWord, Prog.lift, Prog.bind_op, Prog.bind_ret, Prog.pure_eq_ret, Prog.bind_assoc]
  unfold bodyM
  simp only [eight, fetchH, awaitH, headM, halfM, sendM, waitM, passM, recvM, firstM, midM, lastM, prepM, putM, takeM, takeLM, meetM, gatherM, drainM, semSignalWord, semWaitWord, Prog.lift, Prog.bind_op, Prog.bind_ret, Prog.pure_eq_ret, Prog.bind_assoc]
  rfl

end Cert.KernelIdeal.Gen
-- ==== Proof.Body.lean ====
/-
  The body of one device, from what it holds at the start to what it holds at the end; and the obligation the pipeline makes of it.
-/
module

public import proofs.«01_k».proof.Proof.Cuts
public import proofs.«01_k».proof.Proof.ProgEq

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The scratch buffers, of some contents. -/
def bufs (c : Dev nD) : sProp 𝕄 :=
  iprop(anyBuf (F := F) c cc0_scratch0 ∗ anyBuf (F := F) c cc0_scratch3 ∗ anyBuf (F := F) c cc0_scratch4 ∗ anyBuf (F := F) c cc0_scratch5 ∗ cutBufs (F := F) c)

/-- What a device starts with, beside the shared records. -/
def entry (c : Dev nD) : sProp 𝕄 :=
  iprop(meeting (F := F) c ∗ bigSep Finset.univ (expecting (F := F) c) ∗ idle (F := F) c 0 ∗ idle (F := F) c 1 ∗ supply m c main_arg3 ∗ supply m c main_arg4)
/-- What it ends with. -/
def ending (c : Dev nD) : sProp 𝕄 := iprop(idle (F := F) c 0 ∗ idle (F := F) c 1 ∗ rest (F := F) c ∗ semVal (barCell c) 0)

theorem wp_body (K : Dev nD × Slot → ℕ) (c : Dev nD) {Q : PUnit → sProp 𝕄} :
    iprop(records m K ∗ entry m c ∗ bufs (F := F) c ∗ staged m c ∗ outI m c ∅ ∗ owing c (O₀ c))
      ⊢ iprop((iprop(ending (F := F) c ∗ bufs (F := F) c ∗ staged m c ∗ (outM.view.loc (c : Thread nD τ) ↦{fullShare} outAt m) ∗ owing c 0) -∗ Q ⟨⟩) -∗ Wp c (bodyM c) Q) := by
  unfold bodyM entry bufs
  iintro ⟨#Hr, ⟨Hmeet, Hexp, Hi0, Hi1, HK, HV⟩, ⟨B0, B3, B4, B5, HB⟩, Hst, Hout, HO⟩ Hcont
  ihave HB := (cut_all (F := F) c) $$ HB
  icases HB with ⟨Hs0, Hs1, Hsrc, Hslot, Hspare⟩
  ihave Hexp := (Entails.of_eq (bigSep_tr (expecting (F := F) c))) $$ Hexp
  icases Hexp with ⟨X00, X01, X10, X11, X20, X21, Xr0, Xl0, Xr1, Xl1, Xfr, Xfl⟩
  unfold sources
  icases Hsrc with ⟨⟨S00, S01⟩, ⟨S10, S11⟩, ⟨S20, S21⟩, ⟨G0, G1⟩⟩
  simp only [wp_bind]
  iapply (wp_fetch m c 0 0) $$ [HK HV Hi0 Hs0]
  · isplitl [HK]; · iexact HK
    isplitl [HV]; · iexact HV
    isplitl [Hi0] <;> iassumption
  iintro ⟨HK, HV, Hf0⟩
  iapply (wp_meet m K c) $$ [Hmeet Hslot HO]
  · isplitr; · iexact Hr
    isplitl [Hmeet]; · iexact Hmeet
    isplitl [Hslot] <;> iassumption
  iintro ⟨Hg, Hbar⟩
  iapply (wp_prepM m c) $$ [Hst B3 B4 B5]
  · isplitl [Hst]; · iexact Hst
    isplitl [B3]; · iexact B3
    isplitl [B4] <;> iassumption
  iintro ⟨Hst, B3, Hw, Hq⟩
  iapply (wp_fetch m c 3 1) $$ [HK HV Hi1 Hs1]
  · isplitl [HK]; · iexact HK
    isplitl [HV]; · iexact HV
    isplitl [Hi1] <;> iassumption
  iintro ⟨HK, HV, Hf1⟩
  iapply (wp_await m K c 0 0 0) $$ [Hf0 Hg]
  · isplitr; · iexact Hr
    isplitl [Hf0] <;> iassumption
  iintro ⟨Hfill, Hi0, Hg⟩
  iapply (wp_firstM m K c _ 0 (dev3_eq c) (n := 0) (n' := 1) rfl rfl) $$ [Hq Hw Hfill B0 Hg S00]
  · isplitr; · iexact Hr
    isplitl [Hq Hw Hfill B0]
    · unfold tools
      isplitl [Hq]; · iexact Hq
      isplitl [Hw]; · iexact Hw
      isplitl [Hfill]; · iexact Hfill
      iapply (show anyBuf (F := F) c cc0_scratch0 ⊢ attnAny c from Entails.of_eq rfl) $$ B0
    isplitl [Hg] <;> iassumption
  iintro ⟨Ht, Hg⟩
  iapply (wp_firstM m K c _ 1 (dev4_eq c) (n := 1) (n' := 2) rfl rfl) $$ [Ht Hg S01]
  · isplitr; · iexact Hr
    isplitl [Ht]; · iexact Ht
    isplitl [Hg] <;> iassumption
  iintro ⟨Ht, Hg⟩
  unfold tools
  icases Ht with ⟨Hq, Hw, Hfill, B0⟩
  ihave Hs0 := (filled_slots m c 0 0) $$ Hfill
  iapply (wp_fetch m c 2 0) $$ [HK HV Hi0 Hs0]
  · isplitl [HK]; · iexact HK
    isplitl [HV]; · iexact HV
    isplitl [Hi0] <;> iassumption
  iintro ⟨HK, HV, Hf0⟩
  iapply (wp_await m K c 3 1 2) $$ [Hf1 Hg]
  · isplitr; · iexact Hr
    isplitl [Hf1] <;> iassumption
  iintro ⟨Hfill, Hi1, Hg⟩
  iapply (wp_midM m K c _ 3 1 0 1 0 (dev5_eq c) rfl rfl (n := 2) (n' := 3) rfl rfl) $$ [Hq Hw Hfill B0 Hg X00 S10]
  · isplitr; · iexact Hr
    isplitl [Hq Hw Hfill B0]
    · unfold tools
      isplitl [Hq]; · iexact Hq
      isplitl [Hw]; · iexact Hw
      isplitl [Hfill] <;> iassumption
    isplitl [Hg]; · iexact Hg
    isplitl [X00] <;> iassumption
  iintro ⟨Ht, Hg, L00⟩
  iapply (wp_midM m K c _ 3 1 0 1 1 (dev6_eq c) rfl rfl (n := 3) (n' := 4) rfl rfl) $$ [Ht Hg X01 S11]
  · isplitr; · iexact Hr
    isplitl [Ht]; · iexact Ht
    isplitl [Hg]; · iexact Hg
    isplitl [X01] <;> iassumption
  iintro ⟨Ht, Hg, L01⟩
  unfold tools
  icases Ht with ⟨Hq, Hw, Hfill, B0⟩
  ihave Hs1 := (filled_slots m c 3 1) $$ Hfill
  iapply (wp_fetch m c 1 1) $$ [HK HV Hi1 Hs1]
  · isplitl [HK]; · iexact HK
    isplitl [HV]; · iexact HV
    isplitl [Hi1] <;> iassumption
  iintro ⟨HK, HV, Hf1⟩
  iapply (wp_await m K c 2 0 4) $$ [Hf0 Hg]
  · isplitr; · iexact Hr
    isplitl [Hf0] <;> iassumption
  iintro ⟨Hfill, Hi0, Hg⟩
  iapply (wp_midM m K c _ 2 0 1 2 0 (dev7_eq c) rfl rfl (n := 4) (n' := 5) rfl rfl) $$ [Hq Hw Hfill B0 Hg X10 S20]
  · isplitr; · iexact Hr
    isplitl [Hq Hw Hfill B0]
    · unfold tools
      isplitl [Hq]; · iexact Hq
      isplitl [Hw]; · iexact Hw
      isplitl [Hfill] <;> iassumption
    isplitl [Hg]; · iexact Hg
    isplitl [X10] <;> iassumption
  iintro ⟨Ht, Hg, L10⟩
  iapply (wp_midM m K c _ 2 0 1 2 1 (dev8_eq c) rfl rfl (n := 5) (n' := 6) rfl rfl) $$ [Ht Hg X11 S21]
  · isplitr; · iexact Hr
    isplitl [Ht]; · iexact Ht
    isplitl [Hg]; · iexact Hg
    isplitl [X11] <;> iassumption
  iintro ⟨Ht, Hg, L11⟩
  unfold tools
  icases Ht with ⟨Hq, Hw, Hfill, B0⟩
  ihave Hs0 := (filled_slots m c 2 0) $$ Hfill
  iapply (wp_await m K c 1 1 6) $$ [Hf1 Hg]
  · isplitr; · iexact Hr
    isplitl [Hf1] <;> iassumption
  iintro ⟨Hfill, Hi1, Hg⟩
  iapply (wp_lastM m K c _ _ 0 (dev9_eq c) (dev10_eq c) (n := 6) (n' := 8) rfl rfl ∅) $$ [Hq Hw Hfill B0 Hg X20 G0 Hout]
  · isplitr; · iexact Hr
    isplitl [Hq Hw Hfill B0]
    · unfold tools
      isplitl [Hq]; · iexact Hq
      isplitl [Hw]; · iexact Hw
      isplitl [Hfill] <;> iassumption
    isplitl [Hg]; · iexact Hg
    isplitl [X20]; · iexact X20
    isplitl [G0] <;> iassumption
  iintro ⟨Ht, Hg, L20, Hout⟩
  iapply (wp_lastM m K c _ _ 1 (dev11_eq c) (dev12_eq c) (n := 8) (n' := 10) rfl rfl _) $$ [Ht Hg X21 G1 Hout]
  · isplitr; · iexact Hr
    isplitl [Ht]; · iexact Ht
    isplitl [Hg]; · iexact Hg
    isplitl [X21]; · iexact X21
    isplitl [G1] <;> iassumption
  iintro ⟨Ht, Hg, L21, Hout⟩
  unfold tools
  icases Ht with ⟨Hq, Hw, Hfill, B0⟩
  ihave Hs1 := (filled_slots m c 1 1) $$ Hfill
  iapply (wp_gatherM m K c _) $$ [Hg Xr0 Xr1 Xl0 Xl1 Xfr Xfl Hout]
  · isplitr; · iexact Hr
    isplitl [Hg]; · iexact Hg
    isplitl [Xr0 Xr1 Xl0 Xl1 Xfr Xfl]
    · unfold gathering
      isplitl [Xr0]; · iexact Xr0
      isplitl [Xr1]; · iexact Xr1
      isplitl [Xl0]; · iexact Xl0
      isplitl [Xl1]; · iexact Xl1
      isplitl [Xfr] <;> iassumption
    iexact Hout
  iintro ⟨Hg, Hgath, Hout⟩
  iapply (wp_drainM m K c) $$ [Hg]
  · isplitr; · iexact Hr
    iexact Hg
  iintro ⟨Hret, HO⟩
  ihave Hout := (outI_full m c _ (rows_cover c)) $$ Hout
  ihave HB := (join_all m c) $$ [Hs0 Hs1 L00 L01 L10 L11 L20 L21 Hgath Hret Hspare]
  · isplitl [Hs0]; · iexact Hs0
    isplitl [Hs1]; · iexact Hs1
    isplitl [L00 L01 L10 L11 L20 L21]
    · unfold landings
      isplitl [L00]; · iexact L00
      isplitl [L01]; · iexact L01
      isplitl [L10]; · iexact L10
      isplitl [L11]; · iexact L11
      isplitl [L20] <;> iassumption
    isplitl [Hgath]; · iexact Hgath
    isplitl [Hret] <;> iassumption
  icases HB with ⟨HB, Hz⟩
  iapply Hcont
  unfold ending
  isplitl [Hi0 Hi1 Hz Hbar]
  · isplitl [Hi0]; · iexact Hi0
    isplitl [Hi1]; · iexact Hi1
    isplitl [Hz] <;> iassumption
  isplitl [B0 B3 Hw Hq HB]
  · isplitl [B0]
    · iapply (show attnAny (F := F) c ⊢ anyBuf c cc0_scratch0 from Entails.of_eq rfl) $$ B0
    isplitl [B3]; · iexact B3
    isplitl [Hw]
    · unfold wHeld anyBuf; iexists wobf m c; iexact Hw
    isplitl [Hq]
    · unfold qHeld anyBuf; iexists queries m c; iexact Hq
    iexact HB
  isplitl [Hst]; · iexact Hst
  isplitl [Hout] <;> iassumption

/-! ## The pipeline's obligation -/

def Φ₀ (c : Dev nD) : sProp 𝕄 := iprop(iprop((∃ K, records m K) ∗ entry m c) ∗ bufs (F := F) c)
def Φ₁ (c : Dev nD) : sProp 𝕄 := iprop(ending (F := F) c ∗ bufs (F := F) c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wqstg m c
    | ⟨2, _⟩ => wostg m c
    | ⟨3, _⟩ => outAt m
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () (t0_0 : Fin cfg0.N).castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost (c : Dev nD) : sProp 𝕄 :=
  iprop(Φ₁ c ∗ (dats m 0 c).owesAt () (t0_0 : Fin cfg0.N).succ
    ∗ stg c cc0_stg0_0 ((dats m 0 c).after (0 : Fin 4) t0_0) ∗ stg c cc0_stg1_0 ((dats m 0 c).after (1 : Fin 4) t0_0)
    ∗ stg c cc0_stg2_0 ((dats m 0 c).after (2 : Fin 4) t0_0) ∗ stg c cc0_stg3_0 ((dats m 0 c).after (3 : Fin 4) t0_0))

theorem wp_whole (c : Dev nD) : bodyPre m c ⊢ Wp c (bodyAt0 (F := F) t0_0) (fun _ => bodyPost m c) := by
  rw [body_eq]
  unfold bodyPre Φ₀ Wp
  rw [wp_deviceId]
  iintro ⟨⟨⟨⟨%K, #Hr⟩, He⟩, HB⟩, Ho, ⟨%d0, %g0, %h0, H0⟩, ⟨%d1, %g1, %h1, H1⟩, ⟨%d2, %g2, %h2, H2⟩, ⟨%d3, %g3, %h3, H3⟩⟩
  have e0 : g0 = xstg m c := by rw [h0]; unfold Dat.before; rw [if_pos (fetch0_0 t0_0)]; rfl
  have e1 : g1 = wqstg m c := by rw [h1]; unfold Dat.before; rw [if_pos (fetch0_1 t0_0)]; rfl
  have e2 : g2 = wostg m c := by rw [h2]; unfold Dat.before; rw [if_pos (fetch0_2 t0_0)]; rfl
  subst e0 e1 e2
  unfold Dat.owesAt Pipeline.owesWithin
  icases Ho with ⟨%W, %hW, HO⟩
  rw [show (dats m 0 c).owed (t0_0 : Fin cfg0.N).castSucc = O₀ c from rfl]
  ihave H3 := (outI_any m c g3) $$ H3
  iapply (wp_body m K c) $$ [He HB HO H0 H1 H2 H3]
  · isplitr; · iexact Hr
    isplitl [He]; · iexact He
    isplitl [HB]; · iexact HB
    isplitl [H0 H1 H2]
    · unfold staged
      isplitl [H0]; · iexact H0
      isplitl [H1] <;> iassumption
    isplitl [H3]; · iexact H3
    unfold owing; iexists W; iexact HO
  iintro ⟨He, HB, Hst, Hout, HO⟩
  unfold bodyPost Φ₁ Dat.owesAt Pipeline.owesWithin staged owing
  rw [show (dats m 0 c).owed (t0_0 : Fin cfg0.N).succ = 0 from rfl]
  icases Hst with ⟨H0, H1, H2⟩
  icases HO with ⟨%W', HO⟩
  isplitl [He HB]
  · isplitl [He] <;> iassumption
  isplitl [HO]
  · iexists W'; isplitr; · (ipureintro; exact fun _ _ => Or.inl trivial)
    iexact HO
  isplitl [H0]
  · iexists (xstg m c); isplitr; · (ipureintro; rfl)
    iexact H0
  isplitl [H1]
  · iexists (wqstg m c); isplitr; · (ipureintro; rfl)
    iexact H1
  isplitl [H2]
  · iexists (wostg m c); isplitr; · (ipureintro; rfl)
    iexact H2
  iexists (outAt m); isplitr; · (ipureintro; rfl)
  iexact Hout

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem defs_body : defs₀ (F := F) Proc.tc 0 (t0_0, cfg0.slots t0_0) = bodyAt0 t0_0 := rfl

theorem body_obligation (c : Dev nD) : BodyObligation (dats (F := F) m 0 c) (defs₀ (F := F)) 𝒱₀ () Set.univ := fun t => by
  rw [fin_N0 t]
  rw [bigSep_W, bigSep_W]
  simp only [owns_whole_eq]
  rw [defs_body]
  rw [show (dats m 0 c).Φ (t0_0 : Fin cfg0.N).castSucc = Φ₀ m c from rfl, show (dats m 0 c).Φ (t0_0 : Fin cfg0.N).succ = Φ₁ c from rfl]
  have h := wp_whole m c
  unfold bodyPre bodyPost at h
  refine BIBase.Entails.trans (Entails.of_eq ?_) (BIBase.Entails.trans h (Entails.of_eq ?_))
  · congr 1
  · congr 1

end Cert.KernelIdeal.Gen
-- ==== Proof.Run.lean ====
/-
  The launch: the exchange's cells and tokens dealt to the devices, each device's share of the credits, and the run of the whole mesh.
-/
module

public import proofs.«01_k».proof.Proof.Body
public import Idealize.ShloMosaic.Lib.Pipeline.CollectiveSegs
public import Idealize.ShloMosaic.Lib.Quiescent

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores: the fetches', and each transfer's two. -/
def osem : (Fin 2 × Fin 2) ⊕ (Tr ⊕ Tr) → SemLoc sig
  | .inl x => .dma (kvSem x.1 x.2)
  | .inr (.inl i) => .dma i.sS
  | .inr (.inr i) => .dma i.rS

theorem own_facts : Pipeline.OwnSemFacts cfg0.spec osem := by decide

def slotEquiv : Unit ⊕ (Tr ⊕ Tr) ≃ Slot where
  toFun
    | .inl _ => none
    | .inr (.inl i) => some (i, false)
    | .inr (.inr i) => some (i, true)
  invFun
    | none => .inl ()
    | some (i, false) => .inr (.inl i)
    | some (i, true) => .inr (.inr i)
  left_inv x := by rcases x with _ | _ | _ <;> rfl
  right_inv x := by rcases x with _ | ⟨_, _ | _⟩ <;> rfl

theorem bigSep_slot (Φ : Slot → sProp 𝕄) :
    bigSep Finset.univ Φ = iprop(Φ none ∗ (bigSep Finset.univ fun i : Tr => Φ (some (i, false))) ∗ bigSep Finset.univ fun i : Tr => Φ (some (i, true))) := by
  rw [bigSep_univ_equiv slotEquiv, bigSep_univ_sum, bigSep_univ_sum, Finset.univ_unique, bigSep_singleton]; rfl

theorem own_sems (c : Dev nD) : (Pipeline.ownSems0 (Ix := Unit) (Name := ℕ) (U := UU) (Lvl := ℕ) (Val := Elt F) (τ := τ) osem c : sProp 𝕄)
    = iprop((idle c 0 ∗ idle c 1) ∗ rest c) := by
  unfold Pipeline.ownSems0 rest idle
  rw [bigSep_univ_sum, bigSep_univ_sum, bigSep_univ_prod, bigSep_univ_two, bigSep_univ_two, bigSep_univ_two]; rfl

theorem bar_sems (c : Dev nD) : (unscopedSems0 c : sProp 𝕄) = semVal (barCell c) 0 := by
  unfold unscopedSems0; rw [bigSep_eq_bigSepL_of_eq [SemLoc.reg barS] (by decide) (by decide)]; rfl

/-! ## The cells and the tokens minted -/

theorem smOf_inj : Function.Injective smOf := by
  rintro (_ | ⟨i, _ | _⟩) (_ | ⟨j, _ | _⟩) h
  · rfl
  · exact absurd h.symm (dma_ne_bar _)
  · exact absurd h.symm (dma_ne_bar _)
  · exact absurd h (dma_ne_bar _)
  · rw [Tr.sS_inj _ _ (dma_inj h)]
  · exact absurd (dma_inj h) (Tr.sS_ne_rS i j)
  · exact absurd h (dma_ne_bar _)
  · exact absurd (dma_inj h).symm (Tr.sS_ne_rS j i)
  · rw [Tr.rS_inj _ _ (dma_inj h)]

theorem kcell_inj : Function.Injective kcell := fun a b h =>
  Prod.ext (congrArg (fun g : GSem nD τ sig => g.1.1) h) (smOf_inj (congrArg Prod.snd h))

def cells : Finset (GSem nD τ sig) := Finset.univ.map ⟨kcell, kcell_inj⟩

/-- The duties: the barrier's two, and one for each end of a transfer. -/
def slotOf : Bool ⊕ (Tr ⊕ Tr) → Slot × Bool
  | .inl b => (none, b)
  | .inr (.inl i) => (some (i, false), true)
  | .inr (.inr i) => (some (i, true), true)
theorem slotOf_inj : Function.Injective slotOf := by
  rintro (a | a | a) (b | b | b) h <;> simp only [slotOf, Prod.mk.injEq, reduceCtorEq, Option.some.injEq, true_and, and_true, false_and, and_false] at h <;> first | rw [h] | skip

def tokOf (x : Dev nD × (Bool ⊕ (Tr ⊕ Tr))) : GSem nD τ sig × ℕ × Bool := (kcell (x.1, (slotOf x.2).1), 0, (slotOf x.2).2)
theorem tokOf_inj : Function.Injective tokOf := fun a b h => by
  have h1 : kcell (a.1, (slotOf a.2).1) = kcell (b.1, (slotOf b.2).1) := congrArg Prod.fst h
  have h2 := kcell_inj h1
  have h3 : (slotOf a.2).2 = (slotOf b.2).2 := congrArg (fun x => x.2.2) h
  exact Prod.ext (congrArg (fun x : Dev nD × Slot => x.1) h2) (slotOf_inj (Prod.ext (congrArg (fun x : Dev nD × Slot => x.2) h2) h3))

def minted : Finset (GSem nD τ sig × ℕ × Bool) := Finset.univ.map ⟨tokOf, tokOf_inj⟩

def u₀ : UU := (Rounds.initOf (Pipeline.cells cfgs cellOf_inj) (Pipeline.launchToks cfgs cellOf_inj), (Rounds.initOf cells minted, 1))

theorem u₀_split : (ownU u₀ : sProp 𝕄)
    ⊢ iprop(BI.own (EP (Rounds.initOf (Pipeline.cells cfgs cellOf_inj) (Pipeline.launchToks cfgs cellOf_inj))) ∗ BI.own (ER (Rounds.initOf cells minted))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op ((Rounds.initOf cells minted : UB), (1 : Counters)))))

/-- The tokens of a device's own cells. -/
def toks (c : Dev nD) : sProp 𝕄 :=
  iprop((dutyTok ER (barCell c) 0 true ∗ dutyTok ER (barCell c) 0 false)
    ∗ (bigSep Finset.univ fun i : Tr => (dutyTok ER (sendCell c i) 0 true : sProp 𝕄)) ∗ bigSep Finset.univ fun i : Tr => (dutyTok ER (recvCell c i) 0 true : sProp 𝕄))

/-- What a device is dealt at first; -/
def G (c : Dev nD) : sProp 𝕄 :=
  iprop((bigSep Finset.univ fun k : Slot => roundState ER (sched m) (kcell (c, k)) 0)
    ∗ (bigSep Finset.univ fun k : Slot => (atPos ER (kcell (c, k)) 0 ∅ 0 : sProp 𝕄)) ∗ (bigSep Finset.univ fun k : Slot => (reached ER (kcell (c, k)) 0 : sProp 𝕄)) ∗ toks c)

theorem dealt : BI.own (ER (Rounds.initOf cells minted)) ⊢ (|==> bigSep Finset.univ (G m) : sProp 𝕄) := by
  have hX (Φ : GSem nD τ sig → sProp 𝕄) : bigSep cells Φ = bigSep Finset.univ fun c : Dev nD => bigSep Finset.univ fun k : Slot => Φ (kcell (c, k)) := by
    unfold cells; rw [bigSep_map, bigSep_univ_prod]; rfl
  have hT : bigSep minted (fun x => (dutyTok ER x.1 x.2.1 x.2.2 : sProp 𝕄)) = bigSep Finset.univ fun c : Dev nD => toks c := by
    unfold minted; rw [bigSep_map, bigSep_univ_prod]
    exact bigSep_congr fun c _ => by
      unfold toks
      rw [bigSep_univ_sum, bigSep_univ_sum, bigSep_univ_eq_bigSepL [true, false] (by decide) (by decide)]; rfl
  iintro HX
  imod (Rounds.fund ER (sched m) cells minted) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_both]
  isplitl [Hst]; · iexact Hst
  isplitl [Hat]; · iexact Hat
  isplitl [Hr] <;> iassumption

/-! ## The invariants, and the tokens dealt to who pays -/

/-- A device's part once every cell has its invariant. -/
def own (c : Dev nD) : sProp 𝕄 :=
  iprop((idle (F := F) c 0 ∗ idle (F := F) c 1) ∗ (bigSep Finset.univ fun k : Slot => (atPos ER (kcell (c, k)) 0 ∅ 0 : sProp 𝕄)))
def pays (c : Dev nD) : sProp 𝕄 :=
  iprop((dutyTok ER (barCell (left c)) 0 true ∗ dutyTok ER (barCell (right c)) 0 false)
    ∗ (bigSep Finset.univ fun i : Tr => (dutyTok ER (sendCell c i) 0 true : sProp 𝕄)) ∗ bigSep Finset.univ fun i : Tr => (dutyTok ER (recvCell (i.into c) i) 0 true : sProp 𝕄))
def G' (c : Dev nD) : sProp 𝕄 := iprop((∃ K, bigSep Finset.univ (record m K)) ∗ own c ∗ pays c)

theorem alloc_one (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Slot => iprop(∃ κ : ℕ, cellInv ER (sched m) κ (kcell (c, k))))
          ∗ (bigSep Finset.univ fun k : Slot => (reached ER (kcell (c, k)) 0 : sProp 𝕄)) ∗ own c ∗ toks c) := by
  rw [own_sems, bar_sems]
  unfold G rest own
  iintro ⟨⟨Hi, Hs, Hr⟩, Hb, Hst, Hat, Hre, Htok⟩
  ihave Hv := (show iprop(semVal (barCell c) 0 ∗ (bigSep Finset.univ fun i : Tr => (semVal (sendCell c i) 0 : sProp 𝕄)) ∗ bigSep Finset.univ fun i : Tr => (semVal (recvCell c i) 0 : sProp 𝕄))
      ⊢ bigSep Finset.univ fun k : Slot => (semVal (kcell (c, k)) 0 : sProp 𝕄) from Entails.of_eq (bigSep_slot fun k : Slot => (semVal (kcell (c, k)) 0 : sProp 𝕄)).symm) $$ [Hb Hs Hr]
  · isplitl [Hb]; · iexact Hb
    isplitl [Hs] <;> iassumption
  imod (show iprop((bigSep Finset.univ fun k : Slot => semVal (kcell (c, k)) 0) ∗ bigSep Finset.univ fun k : Slot => roundState ER (sched m) (kcell (c, k)) 0)
      ⊢ (|={Set.univ}=> bigSep Finset.univ fun k => iprop(∃ κ : ℕ, cellInv ER (sched m) κ (kcell (c, k))) : sProp 𝕄) from by
        rw [← bigSep_both]
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hre]; · iexact Hre
  isplitl [Hi Hat]
  · isplitl [Hi] <;> iassumption
  iexact Htok

theorem around : (bigSep Finset.univ fun c : Dev nD => (toks c : sProp 𝕄)) ⊢ bigSep Finset.univ fun c : Dev nD => pays c := by
  have hr : (bigSep Finset.univ fun c : Dev nD => bigSep Finset.univ fun i : Tr => (dutyTok ER (recvCell c i) 0 true : sProp 𝕄))
      = bigSep Finset.univ fun c : Dev nD => bigSep Finset.univ fun i : Tr => (dutyTok ER (recvCell (i.into c) i) 0 true : sProp 𝕄) := by
    rw [bigSep_univ_comm, bigSep_univ_comm (fun (c : Dev nD) (i : Tr) => (dutyTok ER (recvCell (i.into c) i) 0 true : sProp 𝕄))]
    exact bigSep_congr fun i _ => bigSep_univ_equiv (turn i.goes) _
  unfold toks pays
  rw [bigSep_both, bigSep_both, bigSep_both, bigSep_both, bigSep_both, bigSep_both, hr,
    bigSep_univ_equiv (turn false) (fun c : Dev nD => (dutyTok ER (barCell c) 0 true : sProp 𝕄)),
    bigSep_univ_equiv (turn true) (fun c : Dev nD => (dutyTok ER (barCell c) 0 false : sProp 𝕄))]
  exact BIBase.Entails.rfl

/-- A persistent assertion beside each summand. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  refine BIBase.Entails.trans ((bigSep_mono fun c _ => alloc_one m c).trans (bigSep_fupd _ _)) (BI.fupd_mono ?_)
  rw [bigSep_both, bigSep_both, bigSep_both, ← bigSep_univ_prod (fun ck : Dev nD × Slot => iprop(∃ κ : ℕ, cellInv ER (sched m) κ (kcell ck))),
    ← bigSep_univ_prod (fun ck : Dev nD × Slot => (reached ER (kcell ck) 0 : sProp 𝕄))]
  iintro ⟨HI, HR, Hown, Htok⟩
  ihave HK := (BI.bigSep_exists_pi Finset.univ (fun (ck : Dev nD × Slot) (κ : ℕ) => (cellInv ER (sched m) κ (kcell ck) : sProp 𝕄))) $$ HI
  icases HK with ⟨%K, HI⟩
  ihave #Hrec := (show iprop((bigSep Finset.univ fun ck : Dev nD × Slot => (cellInv ER (sched m) (K ck) (kcell ck) : sProp 𝕄)) ∗ bigSep Finset.univ fun ck : Dev nD × Slot => (reached ER (kcell ck) 0 : sProp 𝕄))
      ⊢ bigSep Finset.univ (record m K) from by rw [← bigSep_both]; exact BIBase.Entails.rfl) $$ [HI HR]
  · isplitl [HI] <;> iassumption
  ihave Hpay := (around (F := F)) $$ Htok
  iapply (bigSep_beside (R := bigSep Finset.univ (record m K)) (Φ := fun c => iprop(own c ∗ pays c)) fun c _ => by
    unfold G'
    iintro ⟨H, H'⟩
    isplitl [H]; · iexists K; iexact H
    iexact H')
  isplitr; · iexact Hrec
  rw [bigSep_both]
  isplitl [Hown] <;> iassumption

/-! ## The credits -/

theorem bar_iff {a b : Dev nD} : barCell a = barCell b ↔ a = b :=
  ⟨fun h => congrArg (fun g : GSem nD τ sig => g.1.1) h, fun h => h ▸ rfl⟩
theorem recv_iff {a b : Dev nD} {i j : Tr} : recvCell a i = recvCell b j ↔ a = b ∧ i = j :=
  ⟨fun h => ⟨congrArg (fun g : GSem nD τ sig => g.1.1) h, Tr.rS_inj _ _ (dma_inj (congrArg Prod.snd h))⟩, fun h => by rw [h.1, h.2]⟩
theorem recv_ne_bar (a b : Dev nD) (i : Tr) : recvCell a i ≠ barCell b := fun h => dma_ne_bar _ (congrArg Prod.snd h)

theorem dues_at (d : Dev nD) (g : GSem nD τ sig) : dues d 0 g () = ∑ j : Tr, if recvCell (j.into d) j = g then N else 0 := by
  unfold dues
  rw [show (Finset.univ.filter fun i : Tr => 0 ≤ i.ix) = Finset.univ by simp, Finset.sum_apply, Finsupp.finset_sum_apply]
  exact Finset.sum_congr rfl fun j _ => by
    rw [tallyAt_apply]
    by_cases h : g = recvCell (j.into d) j
    · rw [if_pos ⟨h, rfl⟩, if_pos h.symm]
    · rw [if_neg (fun h' => h h'.1), if_neg (fun h' => h h'.symm)]

theorem owes_bar (d c : Dev nD) : O₀ d (barCell c) () = (if d = left c then 1 else 0) + (if d = right c then 1 else 0) := by
  unfold O₀
  rw [Pi.add_apply, Finsupp.add_apply, Pi.add_apply, Finsupp.add_apply, dues_at, Finset.sum_eq_zero (fun j _ => if_neg (recv_ne_bar _ _ j)), Nat.zero_add, tallyAt_apply, tallyAt_apply]
  congr 1
  · refine if_congr ?_ rfl rfl
    rw [bar_iff, and_iff_left rfl]
    exact ⟨fun h => by rw [h, left_right], fun h => by rw [h, right_left]⟩
  · refine if_congr ?_ rfl rfl
    rw [bar_iff, and_iff_left rfl]
    exact ⟨fun h => by rw [h, right_left], fun h => by rw [h, left_right]⟩

theorem owes_recv (d c : Dev nD) (i : Tr) : O₀ d (recvCell c i) () = if d = i.origin c then N else 0 := by
  unfold O₀
  rw [Pi.add_apply, Finsupp.add_apply, Pi.add_apply, Finsupp.add_apply, dues_at, tallyAt_ne_cell (recv_ne_bar _ _ i), tallyAt_ne_cell (recv_ne_bar _ _ i),
    Finsupp.zero_apply, Nat.add_zero, Nat.add_zero, Finset.sum_eq_single i (fun j _ hj => if_neg fun h => hj (recv_iff.mp h).2) (fun h => absurd (Finset.mem_univ i) h)]
  refine if_congr ?_ rfl rfl
  rw [recv_iff, and_iff_left rfl]
  exact ⟨fun h => by rw [← h, Tr.origin_into], fun h => by rw [h]; exact nb_nb' c i.goes⟩

theorem credit_bar (c : Dev nD) : tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owes_bar d c, Finset.sum_add_distrib,
    Finset.sum_ite_eq' Finset.univ (left c) fun _ => 1, Finset.sum_ite_eq' Finset.univ (right c) fun _ => 1, if_pos (Finset.mem_univ _), if_pos (Finset.mem_univ _)]
theorem credit_recv (c : Dev nD) (i : Tr) : tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owes_recv d c i, Finset.sum_ite_eq' Finset.univ (i.origin c) fun _ => N,
    if_pos (Finset.mem_univ _)]

theorem credits (c : Dev nD) : (Pipeline.launchCred O₀ c : sProp 𝕄) ⊢ iprop(cred (tallyAt (barCell c) () 2) ∗ bigSep Finset.univ fun i : Tr => (cred (tallyAt (recvCell c i) () N) : sProp 𝕄)) := by
  unfold Pipeline.launchCred
  rw [bigSep_take (Finset.mem_univ (SemLoc.reg barS)), credit_bar]
  refine sep_mono_right ((bigSep_subset (t := Finset.univ.map ⟨fun i : Tr => SemLoc.dma i.rS, fun i j h => Tr.rS_inj _ _ (dma_inj h)⟩) fun x hx => ?_).trans
    (Entails.of_eq ((bigSep_map _).trans (bigSep_congr fun i _ => ?_))))
  · obtain ⟨i, -, rfl⟩ := Finset.mem_map.mp hx
    exact Finset.mem_erase.mpr ⟨dma_ne_bar _, Finset.mem_univ _⟩
  · exact congrArg cred (credit_recv c i)

/-! ## The launch theorem's conditions -/

def start (c : Dev nD) : sProp 𝕄 := iprop((∃ K, records m K) ∗ entry m c)
/-- What stays outside: half of the keys and of the values, to read at the end. -/
def aside (c : Dev nD) : sProp 𝕄 :=
  iprop(((c : Thread nD τ).loc main_arg3 ↦{fullShare.right} m ((c : Thread nD τ).loc main_arg3)) ∗ ((c : Thread nD τ).loc main_arg4 ↦{fullShare.right} m ((c : Thread nD τ).loc main_arg4)))

theorem entry_intro (c : Dev nD) :
    iprop(own (F := F) c ∗ pays (F := F) c ∗ cred (tallyAt (barCell c) () 2) ∗ (bigSep Finset.univ fun i : Tr => (cred (tallyAt (recvCell c i) () N) : sProp 𝕄))
      ∗ supply m c main_arg3 ∗ supply m c main_arg4) ⊢ entry m c := by
  have ha : (bigSep Finset.univ fun k : Slot => (atPos ER (kcell (c, k)) 0 ∅ 0 : sProp 𝕄)) = iprop(atPos ER (barCell c) 0 ∅ 0
      ∗ (bigSep Finset.univ fun i : Tr => (atPos ER (sendCell c i) 0 ∅ 0 : sProp 𝕄)) ∗ bigSep Finset.univ fun i : Tr => (atPos ER (recvCell c i) 0 ∅ 0 : sProp 𝕄)) := bigSep_slot _
  unfold own pays entry meeting
  rw [ha]
  iintro ⟨⟨⟨Hi0, Hi1⟩, Hab, Has, Har⟩, ⟨⟨Ht, Ht'⟩, Hts, Htr⟩, Hcb, Hcr, HK, HV⟩
  isplitl [Ht Ht' Hab Hcb Hts Htr Has]
  · isplitl [Ht]; · iexact Ht
    isplitl [Ht']; · iexact Ht'
    isplitl [Hab]; · iexact Hab
    isplitl [Hcb]; · iexact Hcb
    unfold ticket; rw [bigSep_both, bigSep_both]
    isplitl [Hts]; · iexact Hts
    isplitl [Htr] <;> iassumption
  isplitl [Har Hcr]
  · iapply (show iprop((bigSep Finset.univ fun i : Tr => (atPos ER (recvCell c i) 0 ∅ 0 : sProp 𝕄)) ∗ bigSep Finset.univ fun i : Tr => (cred (tallyAt (recvCell c i) () N) : sProp 𝕄))
      ⊢ bigSep Finset.univ (expecting c) from by rw [← bigSep_both]; exact BIBase.Entails.rfl)
    isplitl [Har] <;> iassumption
  isplitl [Hi0]; · iexact Hi0
  isplitl [Hi1]; · iexact Hi1
  isplitl [HK] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ aside m c) := by
  rw [Pipeline.unscopedRestP_none, unscopedRest0_eq]
  unfold G' start aside
  iintro ⟨⟨HK, HV⟩, Hlev, Hcr, -, ⟨%K, Hrec⟩, Hown, Hpay⟩
  ihave Hc := (credits (F := F) c) $$ Hcr
  icases Hc with ⟨Hcb, Hcr⟩
  ihave HK := (pointsTo_share (PosShare.mem_left_op_right fullShare)).1 $$ HK
  icases HK with ⟨HK, HK'⟩
  ihave HV := (pointsTo_share (PosShare.mem_left_op_right fullShare)).1 $$ HV
  icases HV with ⟨HV, HV'⟩
  imodintro
  isplitl [Hrec Hlev Hown Hpay Hcb Hcr HK HV]
  · isplitl [Hrec Hlev]
    · iexists K; unfold records
      isplitl [Hrec] <;> iassumption
    iapply (entry_intro m c)
    isplitl [Hown]; · iexact Hown
    isplitl [Hpay]; · iexact Hpay
    isplitl [Hcb]; · iexact Hcb
    isplitl [Hcr]; · iexact Hcr
    unfold supply
    isplitl [HK]; · iexists fullShare.left; iexact HK
    iexists fullShare.left; iexact HV
  isplitl [HK'] <;> iassumption

theorem bufs_eq (c : Dev nD) : (Pipeline.scopedRest (Ix := Unit) (Name := ℕ) (U := UU) (Lvl := ℕ) (Val := Elt F) cfg0.spec c : sProp 𝕄) ⊢ bufs c := by
  rw [scopedRest0_eq]
  unfold bufs cutBufs anyBuf
  iintro ⟨B0, B1, B2, B3, B4, B5, B6, B7, B8, B9, B10⟩
  isplitl [B0]; · iexact B0
  isplitl [B3]; · iexact B3
  isplitl [B4]; · iexact B4
  isplitl [B5]; · iexact B5
  isplitl [B1]; · iexact B1
  isplitl [B2]; · iexact B2
  isplitl [B6]; · iexact B6
  isplitl [B7]; · iexact B7
  isplitl [B8]; · iexact B8
  isplitl [B9] <;> iassumption
theorem bufs_back (c : Dev nD) : bufs (F := F) c ⊢ (Pipeline.scopedRest (Ix := Unit) (Name := ℕ) (U := UU) (Lvl := ℕ) (Val := Elt F) cfg0.spec c : sProp 𝕄) := by
  rw [scopedRest0_eq]
  unfold bufs cutBufs anyBuf
  iintro ⟨B0, B3, B4, B5, B1, B2, B6, B7, B8, B9, B10⟩
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9] <;> iassumption

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ start
  iintro ⟨Hs, -, HB⟩
  isplitl [Hs]; · iexact Hs
  iapply (bufs_eq (F := F) c); iexact HB

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, own_sems, bar_sems]
  unfold Φ₁ ending
  iintro ⟨⟨Hi0, Hi1, Hr, Hb⟩, HB⟩
  isplitl [Hb]; · iexact Hb
  isplitl [Hi0 Hi1 Hr]
  · isplitl [Hi0 Hi1]
    · isplitl [Hi0] <;> iassumption
    iexact Hr
  iapply (bufs_back (F := F) c); iexact HB

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · refine mayWait c _ 0 (O₀ c) (le_of_eq ?_) (above_O₀ c)
      exact lv_low c _ (by fin_cases w <;> fin_cases s <;> decide) ()
    · exact mayWait c _ 0 0 (le_of_eq (lv_low c _ (by fin_cases w <;> fin_cases s <;> decide) ())) (above_zero 0)

/-- What the keys and values are at the end. -/
def Kept (c : Dev nD) (s : MemSt nD τ sig (Elt F)) : Prop :=
  s.mem ((c : Thread nD τ).loc main_arg3) = m ((c : Thread nD τ).loc main_arg3) ∧ s.mem ((c : Thread nD τ).loc main_arg4) = m ((c : Thread nD τ).loc main_arg4)

theorem read_aside (c : Dev nD) (s' : Phys nD τ sig (Elt F)) :
    iprop(unscopedSems0 c ∗ aside m c ∗ SI s')
      ⊢ (|={Set.univ}=> iprop(⌜(∀ sm : SemLoc sig, sm.isScoped .tc = false → s'.mem.sem ((c.tc : Thread nD τ), sm) = 0) ∧ Kept m c s'.mem⌝ ∗ SI s') : sProp 𝕄) := by
  unfold aside
  iintro ⟨Hu, ⟨HK, HV⟩, HSI⟩
  imod (Pipeline.unscopedSems0_read (X := unscopedSems0 c) (c := c) fupd_intro s') $$ [Hu HSI] with ⟨%hs, HSI⟩
  · isplitl [Hu] <;> iassumption
  ihave %hK := SI_pointsTo_agree $$ [HSI HK]
  · isplitl [HSI] <;> iassumption
  ihave %hV := SI_pointsTo_agree $$ [HSI HV]
  · isplitl [HSI] <;> iassumption
  imodintro
  isplitr
  · ipureintro
    exact ⟨hs, funext fun i => hK i (Finset.mem_univ i), funext fun i => hV i (Finset.mem_univ i)⟩
  iexact HSI

theorem share_eq (c : Dev nD) (w : Fin cfg0.W) : (dats m 0 c).share w = fullShare := by unfold Dat.share; split <;> rfl

set_option maxRecDepth 200000 in
/-- The run: every execution ends with each array as the schedule says, the keys and values as they were, and every semaphore at zero. -/
theorem run_main : θ_run defs (onTc (τ := τ) (main (F := F))) ⟨m, fun _ => 0, ρ⟩
    (fun r => (∀ c : Dev nD, (∀ w : Fin cfg0.W, r.2.mem ((cfg0.win w).arr.view.loc (c : Thread nD τ)) = (dats m 0 c).arrAt w cfg0.N) ∧ Kept m c r.2) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      iintro Hu
      ihave H := (u₀_split (F := F)) $$ Hu
      icases H with ⟨HP, HX⟩
      imod (dealt m) $$ HX with HG
      imodintro
      isplitl [HP] <;> iassumption)
    (hglob := glob m)
    (hA := fun _ _ => rfl) (hpf := fun _ k => k.elim0)
    (X := start m) (Y := fun c => unscopedSems0 c) (Z := aside m)
    (hX := start_intro m ρ) (hin := enter m) (hout := leave m)
    (QY := fun c s => (∀ sm : SemLoc sig, sm.isScoped .tc = false → s.sem ((c.tc : Thread nD τ), sm) = 0) ∧ Kept m c s)
    (hY := read_aside m)
    (hQ := fun _ h hs => ⟨fun c => ⟨(h c).1, (h c).2.2.2⟩, sem_eq_zero hs fun c => (h c).2.2.1⟩)

/-! ## The arrays at the end -/

/-- A window over a whole array reads it as it is. -/
theorem read_x (g : (main_arg0 : Ref sig .tc).ty.Contents (Elt F)) (t : Fin cfg0.N) : (win0_0.blk t).view.read (Elt F) g = g := by
  funext j; refine congrArg g (funext fun a => Fin.ext ?_); show 0 * _ + 1 * (j a).val = (j a).val; omega
theorem read_wq (g : (main_arg1 : Ref sig .tc).ty.Contents (Elt F)) (t : Fin cfg0.N) : (win0_1.blk t).view.read (Elt F) g = g := by
  funext j; refine congrArg g (funext fun a => Fin.ext ?_); show 0 * _ + 1 * (j a).val = (j a).val; omega
theorem read_wo (g : (main_arg2 : Ref sig .tc).ty.Contents (Elt F)) (t : Fin cfg0.N) : (win0_2.blk t).view.read (Elt F) g = g := by
  funext j; refine congrArg g (funext fun a => Fin.ext ?_); show 0 * _ + 1 * (j a).val = (j a).val; omega
theorem read_out (g : (main_v1 : Ref sig .tc).ty.Contents (Elt F)) (t : Fin cfg0.N) : (win0_3.blk t).view.read (Elt F) g = g := by
  funext j; refine congrArg g (funext fun a => Fin.ext ?_); show 0 * _ + 1 * (j a).val = (j a).val; omega

/-- The result array holds what the schedule computes; -/
theorem out_final (c : Dev nD) : (dats m 0 c).arrAt (3 : Fin 4) cfg0.N = (outAt m : (main_v1 : Ref sig .tc).ty.Contents (Elt F)) :=
  (dats m 0 c).arrAt_eq_of_cover (3 : Fin 4) (outAt m) (fun t _ => (read_out (outAt m) t).symm) fun i => ⟨t0_0, flush0_3 _, by
    show i ∈ ((View.whole (κ := .tc) main_v1).slice (win0_3.rect t0_0)).set
    rw [View.set_slice_whole, Rect.mem_set_unit]
    exact fun a => ⟨by show 0 * _ ≤ _; omega, by show (i a).val < 0 * _ + _; have := (i a).isLt; rw [Nat.zero_mul, Nat.zero_add]; exact this⟩⟩

/-- and the arguments are unchanged. -/
theorem in_final (c : Dev nD) (w : Fin cfg0.W) (hw : (cfg0.win w).isOut = false) : (dats m 0 c).arrAt w cfg0.N = m ((cfg0.win w).arr.view.loc (c : Thread nD τ)) :=
  (dats (F := F) m 0 c).arrAt_in w hw _

/-- Every execution ends with every argument as it was, the result as computed and every semaphore at zero. -/
theorem run : θ_run defs (onTc (τ := τ) (main (F := F))) ⟨m, fun _ => 0, ρ⟩ (fun r =>
    (∀ c : Dev nD, r.2.mem ((c : Thread nD τ).loc main_v1) = outAt m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run defs _ _).mono (fun r h => ⟨fun c => ⟨((h.1 c).1 (3 : Fin 4)).trans (out_final m c), ((h.1 c).1 (0 : Fin 4)).trans (in_final m c 0 rfl), ((h.1 c).1 (1 : Fin 4)).trans (in_final m c 1 rfl),
    ((h.1 c).1 (2 : Fin 4)).trans (in_final m c 2 rfl), (h.1 c).2.1, (h.1 c).2.2⟩, h.2⟩) (run_main m ρ)

end Cert.KernelIdeal.Gen
-- ==== Proof.Frames.lean ====
/-
  The two kernels' claims that they run, leave their arguments alone and end quiescent. The kernel as printed is the text of its
  idealization, so its run is that one's at bits.
-/
module

public import proofs.«01_k».proof.Defs
public import proofs.«01_k».proof.Proof.Run
public import proofs.«01_k».proof.Proof.Gen.Kernel

@[expose] public section

set_option maxRecDepth 100000

noncomputable section

namespace Cert.Proof

open Idealize.ShloMosaic Idealize.SL.Sem

theorem ideal_quiet : @Cert.quiescent_KernelIdeal Cert.KernelIdeal.Gen.facts := fun m g _ =>
  (θ_run _ _ _).mono (fun r h => ⟨fun c => (h.1 c).2, h.2⟩) (Cert.KernelIdeal.Gen.run (F := Ideal) m g)

theorem body_same : @Cert.Kernel.cc0_body Bits _ Cert.Kernel.Gen.facts = @Cert.KernelIdeal.cc0_body Bits _ Cert.KernelIdeal.Gen.facts := by
  unfold Cert.Kernel.cc0_body Cert.KernelIdeal.cc0_body
  rfl

theorem calls_same : @Cert.Kernel.defs₀ Bits _ Cert.Kernel.Gen.facts = @Cert.KernelIdeal.defs₀ Bits _ Cert.KernelIdeal.Gen.facts := by
  unfold Cert.Kernel.defs₀ Cert.KernelIdeal.defs₀
  rw [body_same]
  refine congrArg Defs.onTc (funext fun l => funext fun x => ?_)
  match l, x with
  | 0, (t, s) => rfl

theorem defs_same : @Cert.Kernel.defs Bits _ Cert.Kernel.Gen.facts = @Cert.KernelIdeal.defs Bits _ Cert.KernelIdeal.Gen.facts := by
  unfold Cert.Kernel.defs Cert.KernelIdeal.defs
  rw [calls_same]
  rfl

theorem main_same : @Cert.Kernel.main Bits _ = @Cert.KernelIdeal.main Bits _ := by
  unfold Cert.Kernel.main Cert.KernelIdeal.main
  rfl

theorem bits_quiet : @Cert.quiescent_Kernel Cert.Kernel.Gen.facts := fun m g _ => by
  rw [defs_same, main_same]
  exact (θ_run _ _ _).mono (fun r h => ⟨fun c => (h.1 c).2, h.2⟩) (Cert.KernelIdeal.Gen.run (F := Bits) m g)

end Cert.Proof
-- ==== Proof.KerVal.lean ====
/-
  The kernel's values read at an index: the queries, a head's attention, a device's part of the product, and the sum over the
  devices that the ring leaves.
-/
module

public import proofs.«01_k».proof.Proof.Run
public import Idealize.ShloMosaic.Lib.Pointwise

@[expose] public section

set_option maxRecDepth 16384

noncomputable section

namespace Cert.KernelIdeal.Gen

open Idealize.ShloMosaic Idealize.ShloMosaic.TcCoe

theorem pay4_pay3_apply (x : FVec Ideal S4x256x1024 .f32) (w : FVec Ideal S1024x1024 .f32) (r n : Fin 1024) :
    k0_pay4 (F := Ideal) (k0_pay3 (F := Ideal) x (k0_pay1 (F := Ideal) w)) (ix2 r n)
      = ∑ t : Fin 1024, x (ix3 ⟨r.val / 256, by omega⟩ ⟨r.val % 256, by omega⟩ t) * (w (ix2 t n) * Ideal.ofBits .f32 0x3DB504F3#32) := by
  pointwise [k0_pay4, k0_pay3, k0_pay1]

theorem attend_apply (q : FVec Ideal S128x128 .bf16) (k v : FVec Ideal S1024x128 .f32) (r e : Fin 128) :
    attend (F := Ideal) q k v (ix2 r e)
      = Ideal.div (∑ j : Fin 1024, Ideal.exp (∑ d : Fin 128, q (ix2 r d) * k (ix2 j d)) * v (ix2 j e))
          (∑ j : Fin 1024, Ideal.exp (∑ d : Fin 128, q (ix2 r d) * k (ix2 j d))) := by
  pointwise [attend]

theorem project_apply (a : FVec Ideal S128x1024 .bf16) (w : FVec Ideal S1024x1024 .f32) (r : Fin 128) (d : Fin 1024) :
    project (F := Ideal) a (k0_pay2 (F := Ideal) w) (ix2 r d) = ∑ n : Fin 1024, a (ix2 r n) * w (ix2 n d) := by
  pointwise [project, k0_pay2]

theorem addHalf_apply (r : FVec Ideal S128x1024 .bf16) (p : FVec Ideal S128x1024 .f32) (i : S128x1024.Idx) :
    addHalf (F := Ideal) r p i = r i + p i := by
  pointwise [addHalf]

variable (m : (ℓ : Loc nD τ sig) → Buf (Elt Ideal) ℓ)

/-! ## A device's arguments -/

def argX (c : Dev nD) : FVec Ideal S4x256x1024 .f32 := m ((c : Thread nD τ).loc main_arg0)
def argWq (c : Dev nD) : FVec Ideal S1024x1024 .f32 := m ((c : Thread nD τ).loc main_arg1)
def argWo (c : Dev nD) : FVec Ideal S1024x1024 .f32 := m ((c : Thread nD τ).loc main_arg2)
def argK (c : Dev nD) : FVec Ideal S4x1024x32x128 .f32 := m ((c : Thread nD τ).loc main_arg3)
def argV (c : Dev nD) : FVec Ideal S4x1024x32x128 .f32 := m ((c : Thread nD τ).loc main_arg4)

/-- The head of the whole model that is head `h` of device `c`. -/
def headOf (c : Dev nD) (h : Fin 8) : Fin 32 := ⟨8 * c.val + h.val, by have : c.val < 4 := c.isLt; omega⟩

/-- The score of row `i` of batch `b` against key `j`, in head `h` of device `c`. -/
def score (c : Dev nD) (b : Fin 4) (i : Fin 256) (h : Fin 8) (j : Fin 1024) : EReal :=
  ∑ d : Fin 128, (∑ t : Fin 1024, argX m c (ix3 b i t) * (argWq m c (ix2 t ⟨128 * h.val + d.val, by omega⟩) * Ideal.ofBits .f32 0x3DB504F3#32))
    * argK m c (ix4 b j (headOf c h) d)

/-- The attention of row `i` of batch `b`, in head `h` of device `c`, at place `e`. -/
def headVal (c : Dev nD) (b : Fin 4) (i : Fin 256) (h : Fin 8) (e : Fin 128) : EReal :=
  Ideal.div (∑ j : Fin 1024, Ideal.exp (score m c b i h j) * argV m c (ix4 b j (headOf c h) e)) (∑ j : Fin 1024, Ideal.exp (score m c b i h j))

/-- What device `c` adds to row `i` of batch `b`, at column `d`. -/
def share (c : Dev nD) (b : Fin 4) (i : Fin 256) (d : Fin 1024) : EReal :=
  ∑ n : Fin 1024, headVal m c b i ⟨n.val / 128, by omega⟩ ⟨n.val % 128, by omega⟩ * argWo m c (ix2 n d)

/-! ## The kernel's values at an index -/

theorem queries_apply (c : Dev nD) (r n : Fin 1024) :
    queries (F := Ideal) m c (ix2 r n)
      = ∑ t : Fin 1024, argX m c (ix3 ⟨r.val / 256, by omega⟩ ⟨r.val % 256, by omega⟩ t) * (argWq m c (ix2 t n) * Ideal.ofBits .f32 0x3DB504F3#32) := by
  have hx : xstg (F := Ideal) m c = argX m c := read_x (F := Ideal) _ _
  have hw : wqstg (F := Ideal) m c = argWq m c := read_wq (F := Ideal) _ _
  unfold queries wqbf
  rw [hx, hw]
  exact pay4_pay3_apply _ _ r n

theorem qtile_apply (c : Dev nD) (o : Fin 4) (p : Fin 2) (h : Fin 8) (r e : Fin 128) :
    qtile (F := Ideal) m c o p h (ix2 r e)
      = queries (F := Ideal) m c (ix2 ⟨256 * ((c.val + o.val) % 4) + 128 * p.val + r.val, by omega⟩ ⟨128 * h.val + e.val, by omega⟩) := by
  refine congrArg (queries (F := Ideal) m c) (funext fun a => Fin.ext ?_)
  match a with
  | 0 =>
    show (k0_off2 c (BitVec.ofNat 32 o.val) (BitVec.ofNat 32 (128 * p.val))) 0 + 1 * r.val = _
    rw [show k0_off2 c (BitVec.ofNat 32 o.val) (BitVec.ofNat 32 (128 * p.val)) = _ from k0_off2_eq c o p, Nat.one_mul]
    rfl
  | 1 => show 128 * h.val + 1 * e.val = _; rw [Nat.one_mul]; rfl

theorem squeezed_apply (f : FVec Ideal S1x1024x1x128 .f32) (h) (j : Fin 1024) (e : Fin 128) :
    shapeCast S1024x128 f h (ix2 j e) = f (ix4 0 j 0 e) := by
  pointwise []

/-- The block of one head's keys, or values, of one batch. -/
abbrev headRect (c : Dev nD) (o : Fin 4) (h : Fin 8) : Rect S4x1024x32x128 :=
  Rect.unit (k0_off1 c (BitVec.ofNat 32 o.val) (BitVec.ofNat 32 h.val)) S1x1024x1x128.size (k0_off1_inb c o h)

theorem headRect_emb (c : Dev nD) (o : Fin 4) (h : Fin 8) (j : Fin 1024) (e : Fin 128) :
    (headRect c o h).emb (ix4 0 j 0 e : S1x1024x1x128.Idx) = ix4 ⟨(c.val + o.val) % 4, by omega⟩ j (headOf c h) e := by
  have hi : ∀ a, ((headRect c o h).emb (ix4 0 j 0 e : S1x1024x1x128.Idx) a).val
      = k0_off1 c (BitVec.ofNat 32 o.val) (BitVec.ofNat 32 h.val) a + 1 * ((ix4 0 j 0 e : S1x1024x1x128.Idx) a).val := fun _ => rfl
  rw [k0_off1_eq] at hi
  refine funext fun a => Fin.ext ((hi a).trans ?_)
  match a with
  | 0 => show (c.val + o.val) % 4 + 1 * 0 = (c.val + o.val) % 4; omega
  | 1 => show 0 + 1 * j.val = j.val; omega
  | 2 => show 8 * c.val + h.val + 1 * 0 = 8 * c.val + h.val; omega
  | 3 => show 0 + 1 * e.val = e.val; omega

theorem kval_apply (c : Dev nD) (o : Fin 4) (h : Fin 8) (j : Fin 1024) (e : Fin 128) :
    kval (F := Ideal) m c o h (ix2 j e) = argK m c (ix4 ⟨(c.val + o.val) % 4, by omega⟩ j (headOf c h) e) := by
  exact (squeezed_apply (fun i => argK m c ((headRect c o h).emb i)) _ j e).trans (congrArg (argK m c) (headRect_emb c o h j e))

theorem vval_apply (c : Dev nD) (o : Fin 4) (h : Fin 8) (j : Fin 1024) (e : Fin 128) :
    vval (F := Ideal) m c o h (ix2 j e) = argV m c (ix4 ⟨(c.val + o.val) % 4, by omega⟩ j (headOf c h) e) := by
  exact (squeezed_apply (fun i => argV m c ((headRect c o h).emb i)) _ j e).trans (congrArg (argV m c) (headRect_emb c o h j e))

theorem headOut_apply (c : Dev nD) (o : Fin 4) (p : Fin 2) (h : Fin 8) (r e : Fin 128) :
    headOut (F := Ideal) m c o p h (ix2 r e)
      = headVal m c ⟨(c.val + o.val) % 4, by omega⟩ ⟨128 * p.val + r.val, by omega⟩ h e := by
  have hq : ∀ d, (∑ t : Fin 1024, argX m c (ix3 ⟨(256 * ((c.val + o.val) % 4) + 128 * p.val + r.val) / 256, by omega⟩ ⟨(256 * ((c.val + o.val) % 4) + 128 * p.val + r.val) % 256, by omega⟩ t) * (argWq m c (ix2 t d) * Ideal.ofBits .f32 0x3DB504F3#32))
      = ∑ t : Fin 1024, argX m c (ix3 ⟨(c.val + o.val) % 4, by omega⟩ ⟨128 * p.val + r.val, by omega⟩ t) * (argWq m c (ix2 t d) * Ideal.ofBits .f32 0x3DB504F3#32) := by
    intro d
    congr! 5 <;> omega
  unfold headOut
  rw [attend_apply]
  simp only [qtile_apply, kval_apply, vval_apply, queries_apply, hq]
  rfl

theorem attnHalf_apply (c : Dev nD) (o : Fin 4) (p : Fin 2) (r : Fin 128) (n : Fin 1024) :
    attnHalf (F := Ideal) m c o p (ix2 r n)
      = headVal m c ⟨(c.val + o.val) % 4, by omega⟩ ⟨128 * p.val + r.val, by omega⟩ ⟨n.val / 128, by omega⟩ ⟨n.val % 128, by omega⟩ := by
  refine Eq.trans ?_ (headOut_apply m c o p ⟨n.val / 128, by omega⟩ r ⟨n.val % 128, by omega⟩)
  refine congrArg (headOut (F := Ideal) m c o p ⟨n.val / 128, by omega⟩) (funext fun a => ?_)
  match a with
  | 0 => rfl
  | 1 => rfl

theorem part_apply (c : Dev nD) (o : Fin 4) (p : Fin 2) (r : Fin 128) (d : Fin 1024) :
    part (F := Ideal) m c o p (ix2 r d) = share m c ⟨(c.val + o.val) % 4, by omega⟩ ⟨128 * p.val + r.val, by omega⟩ d := by
  have hw : wostg (F := Ideal) m c = argWo m c := read_wo (F := Ideal) _ _
  unfold part wobf
  rw [hw, project_apply]
  simp only [attnHalf_apply]
  rfl

theorem part_of (c : Dev nD) (o : Fin 4) (p : Fin 2) (r : Fin 128) (d : Fin 1024) (b : Fin 4) (h : (c.val + o.val) % 4 = b.val) :
    part (F := Ideal) m c o p (ix2 r d) = share m c b ⟨128 * p.val + r.val, by omega⟩ d := by
  rw [part_apply]
  exact congrArg (fun b => share m c b _ d) (Fin.ext h)

theorem sum_around (f : Dev nD → EReal) (b : Dev nD) :
    f (left (left (left (left b)))) + f (left (left (left b))) + f (left (left b)) + f (left b) = ∑ c, f c := by
  refine Eq.trans ?_ (Fin.sum_univ_four f).symm
  match b with
  | 0 => show f 0 + f 1 + f 2 + f 3 = _; rfl
  | 1 => show f 1 + f 2 + f 3 + f 0 = _; abel
  | 2 => show f 2 + f 3 + f 0 + f 1 = _; abel
  | 3 => show f 3 + f 0 + f 1 + f 2 = _; abel

theorem sumAt_succ (t : ℕ) (c : Dev nD) (p : Fin 2) (i : S128x1024.Idx) :
    sumAt (F := Ideal) m (t + 1) c p i = sumAt (F := Ideal) m t (left c) p i + part (F := Ideal) m c (stepOf t) p i :=
  addHalf_apply _ _ i

/-- Each row block of the result is summed over the devices. -/
theorem sum_apply (b : Dev nD) (p : Fin 2) (r : Fin 128) (d : Fin 1024) :
    sumAt (F := Ideal) m 3 (left b) p (ix2 r d) = ∑ c : Dev nD, share m c b ⟨128 * p.val + r.val, by omega⟩ d := by
  have h0 : sumAt (F := Ideal) m 0 (left (left (left (left b)))) p (ix2 r d) = part (F := Ideal) m (left (left (left (left b)))) 0 p (ix2 r d) := rfl
  have hb : ∀ b : Dev nD, ((left (left (left (left b)))).val + (0 : Fin 4).val) % 4 = b.val ∧ ((left (left (left b))).val + (stepOf 0).val) % 4 = b.val
      ∧ ((left (left b)).val + (stepOf 1).val) % 4 = b.val ∧ ((left b).val + (stepOf 2).val) % 4 = b.val := by decide
  obtain ⟨b0, b1, b2, b3⟩ := hb b
  rw [sumAt_succ, sumAt_succ, sumAt_succ, h0, part_of m _ _ p r d b b0, part_of m _ _ p r d b b1, part_of m _ _ p r d b b2, part_of m _ _ p r d b b3]
  exact sum_around (fun c => share m c b _ d) b

theorem outAt_apply (r d : Fin 1024) :
    outAt (F := Ideal) m (ix2 r d) = ∑ c : Dev nD, share m c ⟨r.val / 256, by omega⟩ ⟨r.val % 256, by omega⟩ d := by
  have hb : r.val / 256 < nD := by show _ < 4; omega
  have hr : 128 * (r.val % 256 / 128) + r.val % 128 = r.val % 256 := by omega
  refine Eq.trans ?_ ((sum_apply m ⟨r.val / 256, hb⟩ ⟨r.val % 256 / 128, by omega⟩ ⟨r.val % 128, by omega⟩ d).trans ?_)
  · refine congrArg (sumAt (F := Ideal) m 3 _ _) (funext fun a => ?_)
    match a with
    | 0 => rfl
    | 1 => rfl
  · refine Finset.sum_congr rfl fun c _ => ?_
    exact congrArg (fun i => share m c _ i d) (Fin.ext hr)

end Cert.KernelIdeal.Gen
-- ==== Proof.RefVal.lean ====
/-
  The reference's result read at an index: the scores, the weights, and their product with the values and the output weights.
-/
module

public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic

variable (x : FVec Ideal S4x256x1024 .f32) (wq : FVec Ideal S1024x4096 .f32) (wo : FVec Ideal S4096x1024 .f32)
  (k v : FVec Ideal S4x1024x32x128 .f32)

/-- The scaled scores, and each row's largest. -/
def scores : FVec Ideal S4x32x256x1024 .f32 :=
  mulf (Host.dotGeneral dot_S4x256x32x128_S4x1024x32x128_S4x32x256x1024_3_3_1_1_02_02 none (shapeCast _ (Host.dotGeneral dot_S4x256x1024_S1024x4096_S4x256x4096_2_0_01_1_n_n none x wq) shapeCasts_S4x256x4096_S4x256x32x128) k) (broadcastInDim S4x32x256x1024 ![] bcast_S_S4x32x256x1024 (constant S_ .f32 0x3DB504F3#32))
def largest (s : FVec Ideal S4x32x256x1024 .f32) : FVec Ideal S4x32x256 .f32 :=
  Host.reduce FloatOps.maximumf s (constant S_ .f32 0xFF800000#32) reducesTo_S4x32x256x1024_S4x32x256_d3 h_S_
/-- The weights. -/
def weights (s : FVec Ideal S4x32x256x1024 .f32) (t : FVec Ideal S4x32x256 .f32) : FVec Ideal S4x32x256x1024 .f32 :=
  Host.exp (subf s (broadcastInDim S4x32x256x1024 ![0, 1, 2, 3] bcast_S4x32x256x1_S4x32x256x1024_0_1_2_3 (broadcastInDim S4x32x256x1 ![0, 1, 2] bcast_S4x32x256_S4x32x256x1_0_1_2 t)))
/-- The weighted mean of the values. -/
def means (p : FVec Ideal S4x32x256x1024 .f32) : FVec Ideal S4x256x32x128 .f32 :=
  Host.divf (transpose S4x256x32x128 [0, 3, 1, 2] (Host.dotGeneral dot_S4x1024x32x128_S4x32x256x1024_S4x32x128x256_1_3_3_2_02_01 none v p) transposes_S4x32x128x256_S4x256x32x128_0_3_1_2) (broadcastInDim S4x256x32x128 ![0, 1, 2, 3] bcast_S4x256x32x1_S4x256x32x128_0_1_2_3 (transpose S4x256x32x1 [0, 2, 1, 3] (broadcastInDim S4x32x256x1 ![0, 1, 2] bcast_S4x32x256_S4x32x256x1_0_1_2 (Host.reduceAdd p (constant S_ .f32 0x00000000#32) reducesTo_S4x32x256x1024_S4x32x256_d3 h_S_)) transposes_S4x32x256x1_S4x256x32x1_0_2_1_3))
def result (a : FVec Ideal S4x256x32x128 .f32) : FVec Ideal S1024x1024 .bf16 :=
  truncf .bf16 (shapeCast _ (Host.dotGeneral dot_S4x256x4096_S4096x1024_S4x256x1024_2_0_01_1_n_n none (shapeCast _ a shapeCasts_S4x256x32x128_S4x256x4096) wo) shapeCasts_S4x256x1024_S1024x1024) bitsLt_bf16_f32

theorem scores_apply (b : Fin 4) (h : Fin 32) (i : Fin 256) (j : Fin 1024) :
    scores x wq k (ix4 b h i j)
      = (∑ e : Fin 128, (∑ t : Fin 1024, x (ix3 b i t) * wq (ix2 t ⟨h.val * 128 + e.val, by omega⟩)) * k (ix4 b j h e)) * Ideal.ofBits .f32 0x3DB504F3#32 := by
  pointwise [scores]

theorem largest_apply (s : FVec Ideal S4x32x256x1024 .f32) (b : Fin 4) (h : Fin 32) (i : Fin 256) :
    largest s (ix3 b h i) = (Finset.univ : Finset (Fin 1024)).fold max (Ideal.ofBits .f32 0xFF800000#32) fun j => s (ix4 b h i j) := by
  pointwise [largest]

theorem weights_apply (s : FVec Ideal S4x32x256x1024 .f32) (t : FVec Ideal S4x32x256 .f32) (b : Fin 4) (h : Fin 32) (i : Fin 256) (j : Fin 1024) :
    weights s t (ix4 b h i j) = Ideal.exp (s (ix4 b h i j) - t (ix3 b h i)) := by
  pointwise [weights]

theorem means_apply (p : FVec Ideal S4x32x256x1024 .f32) (b : Fin 4) (i : Fin 256) (h : Fin 32) (e : Fin 128) :
    means v p (ix4 b i h e) = Ideal.div (∑ j : Fin 1024, v (ix4 b j h e) * p (ix4 b h i j)) (∑ j : Fin 1024, p (ix4 b h i j)) := by
  pointwise [means]

theorem result_apply (a : FVec Ideal S4x256x32x128 .f32) (r d : Fin 1024) :
    result wo a (ix2 r d)
      = ∑ n : Fin 4096, a (ix4 ⟨r.val / 256, by omega⟩ ⟨r.val % 256, by omega⟩ ⟨n.val / 128, by omega⟩ ⟨n.val % 128, by omega⟩) * wo (ix2 n d) := by
  pointwise [result]

/-- The reference's result. -/
def answer : FVec Ideal S1024x1024 .bf16 := result wo (means v (weights (scores x wq k) (largest (scores x wq k))))

end Cert.ReferenceIdeal.Value
-- ==== Proof.Soft.lean ====
/-
  Attention weights over the extended reals: the quotient by the sum of exponentials is the same with and without the largest
  score taken off, when the scores are finite; and a positive factor passes through the scores.
-/
module

public import Idealize.ShloMosaic.PureOps.Ideal
public import Idealize.ShloMosaic.PureOps.Ideal.Laws

@[expose] public section

noncomputable section

namespace Cert.Soft

open Idealize.ShloMosaic

/-- A factor that is a nonnegative real distributes over a sum. -/
theorem sum_mul_real {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a t ha ih =>
    rw [Finset.sum_insert ha, Finset.sum_insert ha, ← ih]
    exact EReal.right_distrib_of_nonneg_of_ne_top (by exact_mod_cast hr) (EReal.coe_ne_top r) _ _

theorem coe_sum {ι : Type} (s : Finset ι) (f : ι → ℝ) : ∑ i ∈ s, (f i : EReal) = ((∑ i ∈ s, f i : ℝ) : EReal) := by
  classical
  induction s using Finset.induction_on with
  | empty => simp
  | insert a t ha ih => rw [Finset.sum_insert ha, Finset.sum_insert ha, ih, EReal.coe_add]

/-- A finite value: a real number. -/
def IsReal (x : EReal) : Prop := ∃ r : ℝ, x = r

theorem IsReal.mul {x y : EReal} : IsReal x → IsReal y → IsReal (x * y) := fun ⟨a, ha⟩ ⟨b, hb⟩ => ⟨a * b, by rw [ha, hb, EReal.coe_mul]⟩

theorem IsReal.sum {ι : Type} (s : Finset ι) (f : ι → EReal) (h : ∀ i, IsReal (f i)) : IsReal (∑ i ∈ s, f i) := by
  choose g hg using h
  exact ⟨∑ i ∈ s, g i, by rw [← coe_sum]; exact Finset.sum_congr rfl fun i _ => hg i⟩

/-- The largest of finitely many finite values is finite. -/
theorem fin_fold {n : ℕ} (f : Fin (n + 1) → EReal) (h : ∀ i, IsReal (f i)) : IsReal ((Finset.univ : Finset (Fin (n + 1))).fold max ⊥ f) := by
  have hb : (Finset.univ : Finset (Fin (n + 1))).fold max ⊥ f ≠ ⊥ := by
    obtain ⟨r, hr⟩ := h 0
    have : f 0 ≤ (Finset.univ : Finset (Fin (n + 1))).fold max ⊥ f := (Finset.le_fold_max _).2 (.inr ⟨0, Finset.mem_univ _, le_rfl⟩)
    intro e
    rw [e, hr] at this
    exact EReal.coe_ne_bot r (le_bot_iff.1 this)
  have ht : (Finset.univ : Finset (Fin (n + 1))).fold max ⊥ f < ⊤ :=
    (Finset.fold_max_lt _).2 ⟨bot_lt_top, fun i _ => by obtain ⟨r, hr⟩ := h i; rw [hr]; exact EReal.coe_lt_top r⟩
  exact ⟨_, (EReal.coe_toReal ht.ne hb).symm⟩

/-- Attention of values `v` at scores `s`, the largest score taken off first or not. -/
theorem quotient_eq {n : ℕ} (s v : Fin (n + 1) → EReal) (M : EReal) (hs : ∀ i, IsReal (s i)) (hM : IsReal M) :
    Ideal.div (∑ j, Ideal.exp (s j) * v j) (∑ j, Ideal.exp (s j))
      = Ideal.div (∑ j, v j * Ideal.exp (s j - M)) (∑ j, Ideal.exp (s j - M)) := by
  choose t ht using hs
  obtain ⟨a, rfl⟩ := hM
  have hc : 0 < Real.exp (-a) := Real.exp_pos _
  have hp : ∀ j, Ideal.exp (s j - a) = ((Real.exp (t j) * Real.exp (-a) : ℝ) : EReal) := fun j => by
    rw [ht j, ← EReal.coe_sub, Ideal.exp_coe, sub_eq_add_neg, Real.exp_add]
  have he : ∀ j, Ideal.exp (s j) = ((Real.exp (t j) : ℝ) : EReal) := fun j => by rw [ht j, Ideal.exp_coe]
  have hn : 0 < ∑ j, Real.exp (t j) := Finset.sum_pos (fun j _ => Real.exp_pos _) ⟨0, Finset.mem_univ _⟩
  simp only [hp, he]
  rw [coe_sum, coe_sum, ← Finset.sum_mul, Ideal.div_coe hn.ne', Ideal.div_coe (mul_pos hn hc).ne']
  have hv : ∑ j, v j * ((Real.exp (t j) * Real.exp (-a) : ℝ) : EReal) = (∑ j, ((Real.exp (t j) : ℝ) : EReal) * v j) * (Real.exp (-a) : ℝ) := by
    rw [sum_mul_real _ _ hc.le]
    exact Finset.sum_congr rfl fun j _ => by rw [EReal.coe_mul, ← mul_assoc, mul_comm (v j)]
  rw [hv, mul_assoc, ← EReal.coe_mul]
  congr 2
  field_simp

/-- A positive factor of the weights that make the queries is a factor of the scores. -/
theorem score_scale {m n : ℕ} (x : Fin m → EReal) (w : Fin m → Fin n → EReal) (k : Fin n → EReal) {r : ℝ} (hr : 0 ≤ r) :
    ∑ e, (∑ t, x t * (w t e * (r : EReal))) * k e = (∑ e, (∑ t, x t * w t e) * k e) * (r : EReal) := by
  rw [sum_mul_real _ _ hr]
  refine Finset.sum_congr rfl fun e _ => ?_
  rw [mul_right_comm, sum_mul_real _ _ hr]
  exact congrArg (· * k e) (Finset.sum_congr rfl fun t _ => (mul_assoc _ _ _).symm)

end Cert.Soft
-- ==== Proof.Math.lean ====
/-
  The kernel's result is the reference's: the sum over the devices is the sum over all the heads, and each head's attention is the same.
-/
module

public import proofs.«01_k».proof.Defs
public import proofs.«01_k».proof.Proof.KerVal
public import proofs.«01_k».proof.Proof.RefVal
public import proofs.«01_k».proof.Proof.Soft

@[expose] public section

set_option maxRecDepth 16384

noncomputable section

namespace Cert.Proof

open Idealize.ShloMosaic Cert.Soft Cert.KernelIdeal Cert.KernelIdeal.Gen Cert.ReferenceIdeal.Value

/-! ## The constants -/

theorem lowest : Ideal.ofBits .f32 0xFF800000#32 = ⊥ := by simp [Ideal.ofBits, Ideal.ieee]
theorem highest : Ideal.ofBits .f32 0x7F800000#32 = ⊤ := by simp [Ideal.ofBits, Ideal.ieee]
theorem scale_real : ∃ r : ℝ, 0 ≤ r ∧ Ideal.ofBits .f32 0x3DB504F3#32 = r := by
  refine ⟨11863283 * 2 ^ (-27 : ℤ), by positivity, ?_⟩
  simp [Ideal.ofBits, Ideal.ieee]

/-- A value whose magnitude is below infinity is real. -/
theorem real_of_below (a : EReal) (h : Ideal.cmp .olt (max a (-a)) (Ideal.ofBits .f32 0x7F800000#32) = 1#1) : IsReal a := by
  rw [highest] at h
  have hl : max a (-a) < ⊤ := by
    by_contra hn
    simp [Ideal.cmp, hn] at h
  induction a with
  | bot => simp at hl
  | top => simp at hl
  | coe r => exact ⟨r, rfl⟩

/-- A sum over the columns of all the devices. -/
theorem sum_devices (f : Fin 4096 → EReal) : ∑ n, f n = ∑ c : Fin 4, ∑ n : Fin 1024, f ⟨1024 * c.val + n.val, by omega⟩ := by
  rw [← (finProdFinEquiv (m := 4) (n := 1024)).sum_comp f, Fintype.sum_prod_type]
  refine Finset.sum_congr rfl fun c _ => Finset.sum_congr rfl fun n _ => congrArg f (Fin.ext ?_)
  show n.val + 1024 * c.val = 1024 * c.val + n.val
  omega

/-! ## The two results -/

section

variable (m : (ℓ : Loc Cert.KernelIdeal.nD Cert.KernelIdeal.τ Cert.KernelIdeal.sig) → Buf (Elt Ideal) ℓ)
  (X : FVec Ideal S4x256x1024 .f32) (WQ : FVec Ideal Cert.ReferenceIdeal.S1024x4096 .f32) (WO : FVec Ideal Cert.ReferenceIdeal.S4096x1024 .f32)
  (K V : FVec Ideal S4x1024x32x128 .f32)

theorem score_eq (c : Fin 4) (hX : argX m c = X) (hK : argK m c = K)
    (hq : ∀ t n : Fin 1024, argWq m c (ix2 t n) = WQ (ix2 t ⟨1024 * c.val + n.val, by omega⟩)) (b : Fin 4) (i : Fin 256) (h : Fin 8) (j : Fin 1024) :
    score m c b i h j = scores X WQ K (ix4 b (headOf c h) i j) := by
  obtain ⟨r, hr, hS⟩ := scale_real
  have hcol : ∀ e : Fin 128, (⟨(headOf c h).val * 128 + e.val, by omega⟩ : Fin 4096) = ⟨1024 * c.val + (128 * h.val + e.val), by omega⟩ := fun e =>
    Fin.ext (show (8 * c.val + h.val) * 128 + e.val = 1024 * c.val + (128 * h.val + e.val) by omega)
  rw [scores_apply]
  unfold score
  rw [hX, hK, hS]
  simp only [hq, hcol]
  exact score_scale (fun t => X (ix3 b i t)) (fun t e => WQ (ix2 t ⟨1024 * c.val + (128 * h.val + e.val), by omega⟩)) (fun e => K (ix4 b j (headOf c h) e)) hr

theorem scores_real (fX : ∀ b i t, IsReal (X (ix3 b i t))) (fQ : ∀ t n, IsReal (WQ (ix2 t n))) (fK : ∀ b j h e, IsReal (K (ix4 b j h e)))
    (b : Fin 4) (h : Fin 32) (i : Fin 256) (j : Fin 1024) : IsReal (scores X WQ K (ix4 b h i j)) := by
  obtain ⟨r, hr, hS⟩ := scale_real
  rw [scores_apply]
  exact (IsReal.sum _ _ fun e => (IsReal.sum _ _ fun t => (fX b i t).mul (fQ t _)).mul (fK b j h e)).mul ⟨r, hS⟩

theorem head_eq (fX : ∀ b i t, IsReal (X (ix3 b i t))) (fQ : ∀ t n, IsReal (WQ (ix2 t n))) (fK : ∀ b j h e, IsReal (K (ix4 b j h e)))
    (c : Fin 4) (hX : argX m c = X) (hK : argK m c = K) (hV : argV m c = V)
    (hq : ∀ t n : Fin 1024, argWq m c (ix2 t n) = WQ (ix2 t ⟨1024 * c.val + n.val, by omega⟩)) (b : Fin 4) (i : Fin 256) (h : Fin 8) (e : Fin 128) :
    headVal m c b i h e = means V (weights (scores X WQ K) (largest (scores X WQ K))) (ix4 b i (headOf c h) e) := by
  have hs := scores_real X WQ K fX fQ fK b (headOf c h) i
  rw [means_apply]
  unfold headVal
  simp only [score_eq m X WQ K c hX hK hq, weights_apply, hV]
  refine quotient_eq _ (fun j => V (ix4 b j (headOf c h) e)) _ hs ?_
  rw [largest_apply, lowest]
  exact fin_fold _ hs

theorem answer_eq (fX : ∀ b i t, IsReal (X (ix3 b i t))) (fQ : ∀ t n, IsReal (WQ (ix2 t n))) (fK : ∀ b j h e, IsReal (K (ix4 b j h e)))
    (hX : ∀ c, argX m c = X) (hK : ∀ c, argK m c = K) (hV : ∀ c, argV m c = V)
    (hq : ∀ (c : Fin 4) (t n : Fin 1024), argWq m c (ix2 t n) = WQ (ix2 t ⟨1024 * c.val + n.val, by omega⟩))
    (ho : ∀ (c : Fin 4) (n d : Fin 1024), argWo m c (ix2 n d) = WO (ix2 ⟨1024 * c.val + n.val, by omega⟩ d)) :
    outAt (F := Ideal) m = answer X WQ WO K V := by
  funext i
  obtain ⟨r, d, rfl⟩ : ∃ r d : Fin 1024, i = ix2 r d := ⟨i 0, i 1, by funext a; match a with | 0 => rfl | 1 => rfl⟩
  rw [outAt_apply, answer, result_apply, sum_devices]
  refine Finset.sum_congr rfl fun c _ => Finset.sum_congr rfl fun n _ => ?_
  rw [head_eq m X WQ K V fX fQ fK c (hX c) (hK c) (hV c) (hq c), ho]
  refine congrArg (· * _) (congrArg (means V _) ?_)
  congr 1
  · exact Fin.ext (show 8 * c.val + n.val / 128 = (1024 * c.val + n.val) / 128 by omega)
  · exact Fin.ext (show n.val % 128 = (1024 * c.val + n.val) % 128 by omega)

end

end Cert.Proof
-- ==== Proof.Value.lean ====
/-
  The reference's run and the claim that the two programs' results are equal.
-/
module

public import proofs.«01_k».proof.Proof.Math
public import Idealize.ShloMosaic.Lib.Quiescent
public import Idealize.ShloMosaic.Lib.Layout

@[expose] public section

set_option maxRecDepth 16384

noncomputable section

namespace Cert.Proof

open Idealize.ShloMosaic Idealize.SL.Sem Cert.Soft Cert.KernelIdeal.Gen

theorem pre_kernel : Cert.Pre_finite_KernelIdeal.Facts := ⟨by decide, by decide, by decide⟩
theorem pre_reference : Cert.Pre_finite_ReferenceIdeal.Facts := ⟨by decide, by decide, by decide⟩

theorem reference_quiet : @Cert.quiescent_ReferenceIdeal Cert.ReferenceIdeal.Gen.facts := fun m g _ =>
  (θ_run _ _ _).mono (fun r h => ⟨fun c => (h c).2, sem_eq_zero_of_no_sems rfl _⟩) (Cert.ReferenceIdeal.Value.run (F := Ideal) m g)

section

variable (m : (ℓ : Loc Cert.KernelIdeal.nD Cert.KernelIdeal.τ Cert.KernelIdeal.sig) → Buf (Elt Ideal) ℓ)

/-- What the precondition says of a device's arguments. -/
theorem pre_real (h : @Cert.Pre_KernelIdeal_finite_KernelIdeal pre_kernel m) (c : Dev Cert.KernelIdeal.nD) :
    (∀ i, IsReal (argX m c i)) ∧ (∀ i, IsReal (argWq m c i)) ∧ ∀ i, IsReal (argK m c i) :=
  ⟨fun i => real_of_below _ (congrFun (h c).1 i), fun i => real_of_below _ (congrFun (h c).2.1 i), fun i => real_of_below _ (congrFun (h c).2.2 i)⟩

end

theorem cols_block (w : FVec Ideal Cert.ReferenceIdeal.S1024x4096 .f32) (c : Fin 4) (h) (t n : Fin 1024) :
    Layout.block ⟨2, ![1024, 1024]⟩ ⟨2, ![1024, 4096]⟩ 1 4 c w h (ix2 t n) = w (ix2 t ⟨1024 * c.val + n.val, by omega⟩) := by
  refine congrArg w (funext fun a => Fin.ext ?_)
  match a with
  | 0 => rfl
  | 1 => show c.val * 1024 + n.val = 1024 * c.val + n.val; omega

theorem rows_block (w : FVec Ideal Cert.ReferenceIdeal.S4096x1024 .f32) (c : Fin 4) (h) (n d : Fin 1024) :
    Layout.block ⟨2, ![1024, 1024]⟩ ⟨2, ![4096, 1024]⟩ 0 4 c w h (ix2 n d) = w (ix2 ⟨1024 * c.val + n.val, by omega⟩ d) := by
  refine congrArg w (funext fun a => Fin.ext ?_)
  match a with
  | 0 => show c.val * 1024 + n.val = 1024 * c.val + n.val; omega
  | 1 => rfl

section

variable (m' : (ℓ : Loc Cert.ReferenceIdeal.nD Cert.ReferenceIdeal.τ Cert.ReferenceIdeal.sig) → Buf (Elt Ideal) ℓ)

def allX : FVec Ideal Cert.ReferenceIdeal.S4x256x1024 .f32 :=
  m' (((0 : Dev Cert.ReferenceIdeal.nD).tc : Thread Cert.ReferenceIdeal.nD Cert.ReferenceIdeal.τ).loc Cert.ReferenceIdeal.main_arg0)
def allWq : FVec Ideal Cert.ReferenceIdeal.S1024x4096 .f32 :=
  m' (((0 : Dev Cert.ReferenceIdeal.nD).tc : Thread Cert.ReferenceIdeal.nD Cert.ReferenceIdeal.τ).loc Cert.ReferenceIdeal.main_arg1)
def allWo : FVec Ideal Cert.ReferenceIdeal.S4096x1024 .f32 :=
  m' (((0 : Dev Cert.ReferenceIdeal.nD).tc : Thread Cert.ReferenceIdeal.nD Cert.ReferenceIdeal.τ).loc Cert.ReferenceIdeal.main_arg2)
def allK : FVec Ideal Cert.ReferenceIdeal.S4x1024x32x128 .f32 :=
  m' (((0 : Dev Cert.ReferenceIdeal.nD).tc : Thread Cert.ReferenceIdeal.nD Cert.ReferenceIdeal.τ).loc Cert.ReferenceIdeal.main_arg3)
def allV : FVec Ideal Cert.ReferenceIdeal.S4x1024x32x128 .f32 :=
  m' (((0 : Dev Cert.ReferenceIdeal.nD).tc : Thread Cert.ReferenceIdeal.nD Cert.ReferenceIdeal.τ).loc Cert.ReferenceIdeal.main_arg4)

/-- The reference's result, of the arguments it is run at. -/
def whole : FVec Ideal Cert.ReferenceIdeal.S1024x1024 .bf16 := Cert.ReferenceIdeal.Value.answer (allX m') (allWq m') (allWo m') (allK m') (allV m')

end

theorem results_equal : @Cert.algebraic_KernelIdeal_ReferenceIdeal_pre_finite_KernelIdeal Cert.KernelIdeal.Gen.facts Cert.ReferenceIdeal.Gen.facts pre_kernel := by
  intro m g m' g' hp ha
  have hr := pre_real m hp
  have hq : ∀ (c : Fin 4) (t n : Fin 1024), argWq m c (ix2 t n) = allWq m' (ix2 t ⟨1024 * c.val + n.val, by omega⟩) := fun c t n =>
    (congrFun (ha c).2.1 (ix2 t n)).trans (cols_block (allWq m') c (by decide) t n)
  have ho : ∀ (c : Fin 4) (n d : Fin 1024), argWo m c (ix2 n d) = allWo m' (ix2 ⟨1024 * c.val + n.val, by omega⟩ d) := fun c n d =>
    (congrFun (ha c).2.2.1 (ix2 n d)).trans (rows_block (allWo m') c (by decide) n d)
  have hX : ∀ c, argX m c = allX m' := fun c => (ha c).1
  have hK : ∀ c, argK m c = allK m' := fun c => (ha c).2.2.2.1
  have hm : outAt (F := Ideal) m = whole m' := by
    refine answer_eq m (allX m') (allWq m') (allWo m') (allK m') (allV m') (fun b i t => ?_) (fun t n => ?_) (fun b j h e => ?_) hX hK (fun c => (ha c).2.2.2.2) hq ho
    · exact hX 0 ▸ (hr 0).1 (ix3 b i t)
    · have h := (hr ⟨n.val / 1024, by show _ < 4; omega⟩).2.1 (ix2 t ⟨n.val % 1024, by omega⟩)
      rw [hq] at h
      rw [show n = ⟨1024 * (n.val / 1024) + n.val % 1024, by omega⟩ from Fin.ext (by show n.val = 1024 * (n.val / 1024) + n.val % 1024; omega)]
      exact h
    · exact hK 0 ▸ (hr 0).2.2 (ix4 b j h e)
  refine ⟨whole m', ?_, ?_⟩
  · exact (θ_run _ _ _).mono (fun r h c => ⟨(h.1 c).1.trans hm, (h.1 c).2⟩) (Cert.KernelIdeal.Gen.run (F := Ideal) m g)
  · exact (θ_run _ _ _).mono (fun r h => ⟨(h 0).1, (h 0).2⟩) (Cert.ReferenceIdeal.Value.run (F := Ideal) m' g')

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, pre_kernel, pre_reference,
    bits_quiet, ideal_quiet, fun m g _ => ideal_quiet m g trivial, reference_quiet, fun m g _ => reference_quiet m g trivial, trivial, results_equal⟩

end Cert.Proof

end
